-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Factor (m : (ℓ : Loc Cert.Factor.nD Cert.Factor.τ Cert.Factor.sig) → Buf (Elt Bits) ℓ) : Prop :=
  True

def Pre_FactorIdeal (m : (ℓ : Loc Cert.FactorIdeal.nD Cert.FactorIdeal.τ Cert.FactorIdeal.sig) → Buf (Elt Ideal) ℓ) : Prop :=
  True

def Pre_Sweep (m : (ℓ : Loc Cert.Sweep.nD Cert.Sweep.τ Cert.Sweep.sig) → Buf (Elt Bits) ℓ) : Prop :=
  True

def Pre_SweepIdeal (m : (ℓ : Loc Cert.SweepIdeal.nD Cert.SweepIdeal.τ Cert.SweepIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Factor [hFactor : Cert.Factor.Facts] : Prop :=
  ∀ (m : (ℓ : Loc Cert.Factor.nD Cert.Factor.τ Cert.Factor.sig) → Buf (Elt Bits) ℓ) (g : Dev Cert.Factor.nD → PrngReg), Pre_Factor m →
    θ_run (Cert.Factor.defs (F := Bits)) (onTc (τ := Cert.Factor.τ) (Cert.Factor.main (F := Bits))) ⟨m, fun _ => 0, g⟩ (fun r => (∀ c : Dev Cert.Factor.nD,
      r.2.mem ((c.tc : Thread Cert.Factor.nD Cert.Factor.τ).loc Cert.Factor.main_arg0) = m ((c.tc : Thread Cert.Factor.nD Cert.Factor.τ).loc Cert.Factor.main_arg0))
      ∧ r.2.sem = fun _ => 0)

def quiescent_FactorIdeal [hFactorIdeal : Cert.FactorIdeal.Facts] : Prop :=
  ∀ (m : (ℓ : Loc Cert.FactorIdeal.nD Cert.FactorIdeal.τ Cert.FactorIdeal.sig) → Buf (Elt Ideal) ℓ) (g : Dev Cert.FactorIdeal.nD → PrngReg), Pre_FactorIdeal m →
    θ_run (Cert.FactorIdeal.defs (F := Ideal)) (onTc (τ := Cert.FactorIdeal.τ) (Cert.FactorIdeal.main (F := Ideal))) ⟨m, fun _ => 0, g⟩ (fun r => (∀ c : Dev Cert.FactorIdeal.nD,
      r.2.mem ((c.tc : Thread Cert.FactorIdeal.nD Cert.FactorIdeal.τ).loc Cert.FactorIdeal.main_arg0) = m ((c.tc : Thread Cert.FactorIdeal.nD Cert.FactorIdeal.τ).loc Cert.FactorIdeal.main_arg0))
      ∧ r.2.sem = fun _ => 0)

def quiescent_Sweep [hSweep : Cert.Sweep.Facts] : Prop :=
  ∀ (m : (ℓ : Loc Cert.Sweep.nD Cert.Sweep.τ Cert.Sweep.sig) → Buf (Elt Bits) ℓ) (g : Dev Cert.Sweep.nD → PrngReg), Pre_Sweep m →
    θ_run (Cert.Sweep.defs (F := Bits)) (onTc (τ := Cert.Sweep.τ) (Cert.Sweep.main (F := Bits))) ⟨m, fun _ => 0, g⟩ (fun r => (∀ c : Dev Cert.Sweep.nD,
      r.2.mem ((c.tc : Thread Cert.Sweep.nD Cert.Sweep.τ).loc Cert.Sweep.main_arg0) = m ((c.tc : Thread Cert.Sweep.nD Cert.Sweep.τ).loc Cert.Sweep.main_arg0)
      ∧ r.2.mem ((c.tc : Thread Cert.Sweep.nD Cert.Sweep.τ).loc Cert.Sweep.main_arg1) = m ((c.tc : Thread Cert.Sweep.nD Cert.Sweep.τ).loc Cert.Sweep.main_arg1)
      ∧ r.2.mem ((c.tc : Thread Cert.Sweep.nD Cert.Sweep.τ).loc Cert.Sweep.main_arg2) = m ((c.tc : Thread Cert.Sweep.nD Cert.Sweep.τ).loc Cert.Sweep.main_arg2)
      ∧ r.2.mem ((c.tc : Thread Cert.Sweep.nD Cert.Sweep.τ).loc Cert.Sweep.main_arg3) = m ((c.tc : Thread Cert.Sweep.nD Cert.Sweep.τ).loc Cert.Sweep.main_arg3)
      ∧ r.2.mem ((c.tc : Thread Cert.Sweep.nD Cert.Sweep.τ).loc Cert.Sweep.main_arg4) = m ((c.tc : Thread Cert.Sweep.nD Cert.Sweep.τ).loc Cert.Sweep.main_arg4)
      ∧ r.2.mem ((c.tc : Thread Cert.Sweep.nD Cert.Sweep.τ).loc Cert.Sweep.main_arg5) = m ((c.tc : Thread Cert.Sweep.nD Cert.Sweep.τ).loc Cert.Sweep.main_arg5)
      ∧ r.2.mem ((c.tc : Thread Cert.Sweep.nD Cert.Sweep.τ).loc Cert.Sweep.main_arg6) = m ((c.tc : Thread Cert.Sweep.nD Cert.Sweep.τ).loc Cert.Sweep.main_arg6))
      ∧ r.2.sem = fun _ => 0)

def quiescent_SweepIdeal [hSweepIdeal : Cert.SweepIdeal.Facts] : Prop :=
  ∀ (m : (ℓ : Loc Cert.SweepIdeal.nD Cert.SweepIdeal.τ Cert.SweepIdeal.sig) → Buf (Elt Ideal) ℓ) (g : Dev Cert.SweepIdeal.nD → PrngReg), Pre_SweepIdeal m →
    θ_run (Cert.SweepIdeal.defs (F := Ideal)) (onTc (τ := Cert.SweepIdeal.τ) (Cert.SweepIdeal.main (F := Ideal))) ⟨m, fun _ => 0, g⟩ (fun r => (∀ c : Dev Cert.SweepIdeal.nD,
      r.2.mem ((c.tc : Thread Cert.SweepIdeal.nD Cert.SweepIdeal.τ).loc Cert.SweepIdeal.main_arg0) = m ((c.tc : Thread Cert.SweepIdeal.nD Cert.SweepIdeal.τ).loc Cert.SweepIdeal.main_arg0)
      ∧ r.2.mem ((c.tc : Thread Cert.SweepIdeal.nD Cert.SweepIdeal.τ).loc Cert.SweepIdeal.main_arg1) = m ((c.tc : Thread Cert.SweepIdeal.nD Cert.SweepIdeal.τ).loc Cert.SweepIdeal.main_arg1)
      ∧ r.2.mem ((c.tc : Thread Cert.SweepIdeal.nD Cert.SweepIdeal.τ).loc Cert.SweepIdeal.main_arg2) = m ((c.tc : Thread Cert.SweepIdeal.nD Cert.SweepIdeal.τ).loc Cert.SweepIdeal.main_arg2)
      ∧ r.2.mem ((c.tc : Thread Cert.SweepIdeal.nD Cert.SweepIdeal.τ).loc Cert.SweepIdeal.main_arg3) = m ((c.tc : Thread Cert.SweepIdeal.nD Cert.SweepIdeal.τ).loc Cert.SweepIdeal.main_arg3)
      ∧ r.2.mem ((c.tc : Thread Cert.SweepIdeal.nD Cert.SweepIdeal.τ).loc Cert.SweepIdeal.main_arg4) = m ((c.tc : Thread Cert.SweepIdeal.nD Cert.SweepIdeal.τ).loc Cert.SweepIdeal.main_arg4)
      ∧ r.2.mem ((c.tc : Thread Cert.SweepIdeal.nD Cert.SweepIdeal.τ).loc Cert.SweepIdeal.main_arg5) = m ((c.tc : Thread Cert.SweepIdeal.nD Cert.SweepIdeal.τ).loc Cert.SweepIdeal.main_arg5)
      ∧ r.2.mem ((c.tc : Thread Cert.SweepIdeal.nD Cert.SweepIdeal.τ).loc Cert.SweepIdeal.main_arg6) = m ((c.tc : Thread Cert.SweepIdeal.nD Cert.SweepIdeal.τ).loc Cert.SweepIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Factor_FactorIdeal : Prop :=
  True

def preserves_Sweep_SweepIdeal : Prop :=
  True

def Claim : Prop :=
  ∃ (hKernel : Cert.Kernel.Facts) (hKernelIdeal : Cert.KernelIdeal.Facts) (hReferenceIdeal : Cert.ReferenceIdeal.Facts) (hFactor : Cert.Factor.Facts) (hFactorIdeal : Cert.FactorIdeal.Facts) (hSweep : Cert.Sweep.Facts) (hSweepIdeal : Cert.SweepIdeal.Facts),
    quiescent_Kernel (hKernel := hKernel)
    ∧ quiescent_KernelIdeal (hKernelIdeal := hKernelIdeal)
    ∧ quiescent_ReferenceIdeal (hReferenceIdeal := hReferenceIdeal)
    ∧ quiescent_Factor (hFactor := hFactor)
    ∧ quiescent_FactorIdeal (hFactorIdeal := hFactorIdeal)
    ∧ quiescent_Sweep (hSweep := hSweep)
    ∧ quiescent_SweepIdeal (hSweepIdeal := hSweepIdeal)
    ∧ preserves_Kernel_KernelIdeal
    ∧ algebraic_KernelIdeal_ReferenceIdeal (hKernelIdeal := hKernelIdeal) (hReferenceIdeal := hReferenceIdeal)
    ∧ preserves_Factor_FactorIdeal
    ∧ preserves_Sweep_SweepIdeal
-- ==== Kernel.lean ====
abbrev S96x2048x1024 : Shape := ⟨3, ![96, 2048, 1024]⟩
abbrev S1024x1024 : Shape := ⟨2, ![1024, 1024]⟩
abbrev S1x2048x1024 : Shape := ⟨3, ![1, 2048, 1024]⟩
abbrev S1024x2048 : Shape := ⟨2, ![1024, 2048]⟩
abbrev S2048x1024 : Shape := ⟨2, ![2048, 1024]⟩
abbrev S1024x256 : Shape := ⟨2, ![1024, 256]⟩
abbrev S1x2048x256 : Shape := ⟨3, ![1, 2048, 256]⟩
abbrev S2048x256 : Shape := ⟨2, ![2048, 256]⟩
abbrev S768x256 : Shape := ⟨2, ![768, 256]⟩
abbrev S768x2048 : Shape := ⟨2, ![768, 2048]⟩
abbrev S512x256 : Shape := ⟨2, ![512, 256]⟩
abbrev S512x2048 : Shape := ⟨2, ![512, 2048]⟩
abbrev S256x256 : Shape := ⟨2, ![256, 256]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S96x2048x1024, .bf16⟩
  | .hbm, ⟨1, _⟩ => ⟨S1024x1024, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .f32⟩
  | .local _ .vmem, ⟨3, _⟩ => ⟨S1024x2048, .bf16⟩
  | _, _ => ⟨S96x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S96x2048x1024 : Shape := ⟨3, ![96, 2048, 1024]⟩
abbrev S1024x1024 : Shape := ⟨2, ![1024, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S96x2048x1024, .bf16⟩
  | .hbm, ⟨1, _⟩ => ⟨S1024x1024, .f32⟩
  | .hbm, ⟨2, _⟩ => ⟨S1024x1024, .i32⟩
  | .hbm, ⟨3, _⟩ => ⟨S1024x1024, .i32⟩
  | .hbm, ⟨4, _⟩ => ⟨S_, .i32⟩
  | .hbm, ⟨5, _⟩ => ⟨S1024x1024, .i32⟩
  | .hbm, ⟨6, _⟩ => ⟨S1024x1024, .i32⟩
  | .hbm, ⟨7, _⟩ => ⟨S_, .i32⟩
  | .hbm, ⟨8, _⟩ => ⟨S1024x1024, .i32⟩
  | .hbm, ⟨9, _⟩ => ⟨S1024x1024, .i32⟩
  | .hbm, ⟨10, _⟩ => ⟨S1024x1024, .i1⟩
  | .hbm, ⟨11, _⟩ => ⟨S_, .f32⟩
  | .hbm, ⟨12, _⟩ => ⟨S1024x1024, .f32⟩
  | .hbm, ⟨13, _⟩ => ⟨S1024x1024, .f32⟩
  | _, _ => ⟨S96x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Factor.lean ====
abbrev S1024x1024 : Shape := ⟨2, ![1024, 1024]⟩
abbrev S1024x128 : Shape := ⟨2, ![1024, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S8x128 : Shape := ⟨2, ![8, 128]⟩
abbrev S8x1 : Shape := ⟨2, ![8, 1]⟩
abbrev S128x1024 : Shape := ⟨2, ![128, 1024]⟩
abbrev S128x768 : Shape := ⟨2, ![128, 768]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x128, .f32⟩
  | .hbm, ⟨5, _⟩ => ⟨S1024x128, .f32⟩
  | .local _ .vmem, ⟨0, _⟩ => ⟨S1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v122 : BitVec 32 := Scalar.addi c0_i32 c8_i32
  let c1_i32 : BitVec 32 := 1#32
  ⟨c0_i32, v122, c1_i32⟩
def k0_mult1 (k0_t1 : Fin k0_t1_loop.trips) : BitVec 32 :=
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let c128_i32 : BitVec 32 := 128#32
  let v124 : BitVec 32 := Scalar.muli v123 c128_i32
  v124
def k0_off1 (k0_t1 : Fin k0_t1_loop.trips) (c0_i32_65 : BitVec 32) : Fin 2 → Nat :=
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let c128_i32 : BitVec 32 := 128#32
  let v124 : BitVec 32 := Scalar.muli v123 c128_i32
  let v125 : BitVec 32 := v124
  let v126 : BitVec 32 := Scalar.addi v125 c0_i32_65
  let v127 : Index := Scalar.indexCast v126
  let v128 : Index := Scalar.indexCast v125
  ![v127.toNat, v128.toNat]
def k0_off2 (k0_t1 : Fin k0_t1_loop.trips) (c0_i32_766 : BitVec 32) : Fin 2 → Nat :=
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let c128_i32 : BitVec 32 := 128#32
  let v124 : BitVec 32 := Scalar.muli v123 c128_i32
  let v125 : BitVec 32 := v124
  let v20654 : BitVec 32 := Scalar.addi v125 c0_i32_766
  let v20655 : Index := Scalar.indexCast v20654
  let c0_767 : Index := 0#32
  ![v20655.toNat, 0]
def k0_off3 (k0_t1 : Fin k0_t1_loop.trips) : Fin 2 → Nat :=
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let c128_i32 : BitVec 32 := 128#32
  let v124 : BitVec 32 := Scalar.muli v123 c128_i32
  let v125 : BitVec 32 := v124
  let v20708 : Index := Scalar.indexCast v125
  let c0_799 : Index := 0#32
  ![v20708.toNat, 0]
def k0_off4 (k0_t1 : Fin k0_t1_loop.trips) : Fin 2 → Nat :=
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let c128_i32 : BitVec 32 := 128#32
  let v124 : BitVec 32 := Scalar.muli v123 c128_i32
  let v125 : BitVec 32 := v124
  let v20711 : Index := Scalar.indexCast v125
  let c0_800 : Index := 0#32
  ![v20711.toNat, 0]
def k0_off5 (k0_t1 : Fin k0_t1_loop.trips) : Fin 2 → Nat :=
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let c128_i32 : BitVec 32 := 128#32
  let v124 : BitVec 32 := Scalar.muli v123 c128_i32
  let v125 : BitVec 32 := v124
  let v20780 : Index := Scalar.indexCast v125
  let v20781 : Index := Scalar.indexCast v125
  ![v20780.toNat, v20781.toNat]
@[reducible] def k0_t2_loop (k0_t1 : Fin k0_t1_loop.trips) : Scf.Loop 32 :=
  let c0_i32_807 : BitVec 32 := 0#32
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let v20789 : BitVec 32 := Scalar.subi v123 c0_i32_807
  let c1_i32_808 : BitVec 32 := 1#32
  let v20791 : BitVec 32 := Scalar.divsi v20789 c1_i32_808
  let v20792 : BitVec 32 := Scalar.muli v20791 c1_i32_808
  let v20793 : BitVec 32 := Scalar.addi c0_i32_807 v20792
  let c1_i32_809 : BitVec 32 := 1#32
  ⟨c0_i32_807, v20793, c1_i32_809⟩
def k0_mult2 (k0_t1 : Fin k0_t1_loop.trips) (k0_t2 : Fin (k0_t2_loop k0_t1).trips) : BitVec 32 :=
  let c0_i32_807 : BitVec 32 := 0#32
  let c1_i32_809 : BitVec 32 := 1#32
  let arg8 : BitVec 32 := Scf.iv c0_i32_807 c1_i32_809 k0_t2
  let c128_i32_811 : BitVec 32 := 128#32
  let v20794 : BitVec 32 := Scalar.muli arg8 c128_i32_811
  v20794
def k0_off6 (k0_t1 : Fin k0_t1_loop.trips) (k0_t2 : Fin (k0_t2_loop k0_t1).trips) : Fin 2 → Nat :=
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let c128_i32 : BitVec 32 := 128#32
  let v124 : BitVec 32 := Scalar.muli v123 c128_i32
  let v125 : BitVec 32 := v124
  let v20796 : Index := Scalar.indexCast v125
  let c0_i32_807 : BitVec 32 := 0#32
  let c1_i32_809 : BitVec 32 := 1#32
  let arg8 : BitVec 32 := Scf.iv c0_i32_807 c1_i32_809 k0_t2
  let c128_i32_811 : BitVec 32 := 128#32
  let v20794 : BitVec 32 := Scalar.muli arg8 c128_i32_811
  let v20795 : BitVec 32 := v20794
  let v20797 : Index := Scalar.indexCast v20795
  ![v20796.toNat, v20797.toNat]
def k0_off7 (k0_t1 : Fin k0_t1_loop.trips) (k0_t2 : Fin (k0_t2_loop k0_t1).trips) : Fin 2 → Nat :=
  let c0_i32_807 : BitVec 32 := 0#32
  let c1_i32_809 : BitVec 32 := 1#32
  let arg8 : BitVec 32 := Scf.iv c0_i32_807 c1_i32_809 k0_t2
  let c128_i32_811 : BitVec 32 := 128#32
  let v20794 : BitVec 32 := Scalar.muli arg8 c128_i32_811
  let v20795 : BitVec 32 := v20794
  let v20817 : Index := Scalar.indexCast v20795
  let c0_812 : Index := 0#32
  ![v20817.toNat, 0]
@[reducible] def k0_t3_loop (k0_t1 : Fin k0_t1_loop.trips) : Scf.Loop 32 :=
  let c0_i32_807 : BitVec 32 := 0#32
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let v20789 : BitVec 32 := Scalar.subi v123 c0_i32_807
  let c1_i32_808 : BitVec 32 := 1#32
  let v20791 : BitVec 32 := Scalar.divsi v20789 c1_i32_808
  let v20792 : BitVec 32 := Scalar.muli v20791 c1_i32_808
  let v20793 : BitVec 32 := Scalar.addi c0_i32_807 v20792
  let v20790 : BitVec 32 := Scalar.addi c0_i32_807 v20789
  let c1_i32_810 : BitVec 32 := 1#32
  ⟨v20793, v20790, c1_i32_810⟩
def k0_mult3 (k0_t1 : Fin k0_t1_loop.trips) (k0_t3 : Fin (k0_t3_loop k0_t1).trips) : BitVec 32 :=
  let c0_i32_807 : BitVec 32 := 0#32
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let v20789 : BitVec 32 := Scalar.subi v123 c0_i32_807
  let c1_i32_808 : BitVec 32 := 1#32
  let v20791 : BitVec 32 := Scalar.divsi v20789 c1_i32_808
  let v20792 : BitVec 32 := Scalar.muli v20791 c1_i32_808
  let v20793 : BitVec 32 := Scalar.addi c0_i32_807 v20792
  let c1_i32_810 : BitVec 32 := 1#32
  let arg8 : BitVec 32 := Scf.iv v20793 c1_i32_810 k0_t3
  let c128_i32_811 : BitVec 32 := 128#32
  let v20794 : BitVec 32 := Scalar.muli arg8 c128_i32_811
  v20794
def k0_off8 (k0_t1 : Fin k0_t1_loop.trips) (k0_t3 : Fin (k0_t3_loop k0_t1).trips) : Fin 2 → Nat :=
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let c128_i32 : BitVec 32 := 128#32
  let v124 : BitVec 32 := Scalar.muli v123 c128_i32
  let v125 : BitVec 32 := v124
  let v20796 : Index := Scalar.indexCast v125
  let c0_i32_807 : BitVec 32 := 0#32
  let v20789 : BitVec 32 := Scalar.subi v123 c0_i32_807
  let c1_i32_808 : BitVec 32 := 1#32
  let v20791 : BitVec 32 := Scalar.divsi v20789 c1_i32_808
  let v20792 : BitVec 32 := Scalar.muli v20791 c1_i32_808
  let v20793 : BitVec 32 := Scalar.addi c0_i32_807 v20792
  let c1_i32_810 : BitVec 32 := 1#32
  let arg8 : BitVec 32 := Scf.iv v20793 c1_i32_810 k0_t3
  let c128_i32_811 : BitVec 32 := 128#32
  let v20794 : BitVec 32 := Scalar.muli arg8 c128_i32_811
  let v20795 : BitVec 32 := v20794
  let v20797 : Index := Scalar.indexCast v20795
  ![v20796.toNat, v20797.toNat]
def k0_off9 (k0_t1 : Fin k0_t1_loop.trips) (k0_t3 : Fin (k0_t3_loop k0_t1).trips) : Fin 2 → Nat :=
  let c0_i32_807 : BitVec 32 := 0#32
  let c7_i32 : BitVec 32 := 7#32
  let c0_i32 : BitVec 32 := 0#32
  let c1_i32 : BitVec 32 := 1#32
  let arg7 : BitVec 32 := Scf.iv c0_i32 c1_i32 k0_t1
  let v123 : BitVec 32 := Scalar.subi c7_i32 arg7
  let v20789 : BitVec 32 := Scalar.subi v123 c0_i32_807
  let c1_i32_808 : BitVec 32 := 1#32
  let v20791 : BitVec 32 := Scalar.divsi v20789 c1_i32_808
  let v20792 : BitVec 32 := Scalar.muli v20791 c1_i32_808
  let v20793 : BitVec 32 := Scalar.addi c0_i32_807 v20792
  let c1_i32_810 : BitVec 32 := 1#32
  let arg8 : BitVec 32 := Scf.iv v20793 c1_i32_810 k0_t3
  let c128_i32_811 : BitVec 32 := 128#32
  let v20794 : BitVec 32 := Scalar.muli arg8 c128_i32_811
  let v20795 : BitVec 32 := v20794
  let v20817 : Index := Scalar.indexCast v20795
  let c0_812 : Index := 0#32
  ![v20817.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Sweep.lean ====
abbrev S32768 : Shape := ⟨1, ![32768]⟩
abbrev S1024 : Shape := ⟨1, ![1024]⟩
abbrev S1024x2816 : Shape := ⟨2, ![1024, 2816]⟩
abbrev S128x2816 : Shape := ⟨2, ![128, 2816]⟩
abbrev S1024x1024 : Shape := ⟨2, ![1024, 1024]⟩
abbrev S704x128 : Shape := ⟨2, ![704, 128]⟩
abbrev S3x128x2816 : Shape := ⟨3, ![3, 128, 2816]⟩
abbrev S8x128 : Shape := ⟨2, ![8, 128]⟩
abbrev S16x2816 : Shape := ⟨2, ![16, 2816]⟩
abbrev S1x128 : Shape := ⟨2, ![1, 128]⟩
abbrev S22x128 : Shape := ⟨2, ![22, 128]⟩
abbrev S1 : Shape := ⟨1, ![1]⟩
abbrev S32x128 : Shape := ⟨2, ![32, 128]⟩
abbrev S1x32x128 : Shape := ⟨3, ![1, 32, 128]⟩
abbrev S96x128 : Shape := ⟨2, ![96, 128]⟩
abbrev S96x32 : Shape := ⟨2, ![96, 32]⟩
abbrev S96x192 : Shape := ⟨2, ![96, 192]⟩
abbrev S1x32x2816 : Shape := ⟨3, ![1, 32, 2816]⟩
abbrev S32x2816 : Shape := ⟨2, ![32, 2816]⟩
abbrev S96x2816 : Shape := ⟨2, ![96, 2816]⟩
abbrev S192x2816 : Shape := ⟨2, ![192, 2816]⟩
abbrev S64x128 : Shape := ⟨2, ![64, 128]⟩
abbrev S64x32 : Shape := ⟨2, ![64, 32]⟩
abbrev S64x192 : Shape := ⟨2, ![64, 192]⟩
abbrev S64x2816 : Shape := ⟨2, ![64, 2816]⟩
abbrev S32x32 : Shape := ⟨2, ![32, 32]⟩
abbrev S32x192 : Shape := ⟨2, ![32, 192]⟩
abbrev S128x128 : Shape := ⟨2, ![128, 128]⟩
abbrev S128x768 : Shape := ⟨2, ![128, 768]⟩
abbrev S1x128x2816 : Shape := ⟨3, ![1, 128, 2816]⟩
abbrev S768x2816 : Shape := ⟨2, ![768, 2816]⟩

abbrev nBuf : Space → Nat
  | .hbm => 9
  | .vmem => 17
  | .smem => 2
  | _ => 0

abbrev bufTy : (tb : Table) → Fin (tcTables nBuf tb) → BufTy
  | .hbm, ⟨0, _⟩ => ⟨S32768, .f32⟩
  | .hbm, ⟨1, _⟩ => ⟨S1024, .f32⟩
  | .hbm, ⟨2, _⟩ => ⟨S1024x2816, .bf16⟩
  | .hbm, ⟨3, _⟩ => ⟨S128x2816, .i8⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x2816, .f32⟩
  | .hbm, ⟨8, _⟩ => ⟨S1024x2816, .f32⟩
  | .local _ .vmem, ⟨0, _⟩ => ⟨S128x2816, .bf16⟩
  | .local _ .vmem, ⟨1, _⟩ => ⟨S128x2816, .bf16⟩
  | .local _ .vmem, ⟨2, _⟩ => ⟨S128x2816, .i8⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S1024x2816, .f32⟩
  | .local _ .vmem, ⟨11, _⟩ => ⟨S128x2816, .i32⟩
  | .local _ .vmem, ⟨12, _⟩ => ⟨S704x128, .f32⟩
  | .local _ .vmem, ⟨13, _⟩ => ⟨S704x128, .f32⟩
  | .local _ .vmem, ⟨14, _⟩ => ⟨S704x128, .f32⟩
  | .local _ .vmem, ⟨15, _⟩ => ⟨S704x128, .f32⟩
  | .local _ .vmem, ⟨16, _⟩ => ⟨S3x128x2816, .bf16⟩
  | .local _ .smem, ⟨0, _⟩ => ⟨S32768, .f32⟩
  | .local _ .smem, ⟨1, _⟩ => ⟨S1024, .f32⟩
  | _, _ => ⟨S32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_mult2 (i : grid0.Coords) : BitVec 32 :=
  let arg0 : BitVec 32 := BitVec.ofNat 32 (i 0).val
  let c16_i32 : BitVec 32 := 16#32
  let v6 : BitVec 32 := Scalar.muli arg0 c16_i32
  v6
def k0_off1 (i : grid0.Coords) : Fin 2 → Nat :=
  let arg0 : BitVec 32 := BitVec.ofNat 32 (i 0).val
  let c16_i32 : BitVec 32 := 16#32
  let v6 : BitVec 32 := Scalar.muli arg0 c16_i32
  let v7 : BitVec 32 := v6
  let v8 : Index := Scalar.indexCast v7
  let c0 : Index := 0#32
  ![v8.toNat, 0]
def k0_off2 (i : grid0.Coords) (c0_i32_3 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v12 : BitVec 32 := Scalar.addi v1 c0_i32_3
  let v13 : Index := Scalar.indexCast v12
  let c0_4 : Index := 0#32
  ![v13.toNat, 0]
def k0_off3 (i : grid0.Coords) (c0_i32_12 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v34 : BitVec 32 := Scalar.addi v1 c0_i32_12
  let v35 : Index := Scalar.indexCast v34
  let c128_13 : Index := 128#32
  ![v35.toNat, 128]
def k0_off4 (i : grid0.Coords) (c0_i32_21 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v56 : BitVec 32 := Scalar.addi v1 c0_i32_21
  let v57 : Index := Scalar.indexCast v56
  let c256_22 : Index := 256#32
  ![v57.toNat, 256]
def k0_off5 (i : grid0.Coords) (c0_i32_30 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v78 : BitVec 32 := Scalar.addi v1 c0_i32_30
  let v79 : Index := Scalar.indexCast v78
  let c384_31 : Index := 384#32
  ![v79.toNat, 384]
def k0_off6 (i : grid0.Coords) (c0_i32_39 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v100 : BitVec 32 := Scalar.addi v1 c0_i32_39
  let v101 : Index := Scalar.indexCast v100
  let c512_40 : Index := 512#32
  ![v101.toNat, 512]
def k0_off7 (i : grid0.Coords) (c0_i32_48 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v122 : BitVec 32 := Scalar.addi v1 c0_i32_48
  let v123 : Index := Scalar.indexCast v122
  let c640_49 : Index := 640#32
  ![v123.toNat, 640]
def k0_off8 (i : grid0.Coords) (c0_i32_57 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v144 : BitVec 32 := Scalar.addi v1 c0_i32_57
  let v145 : Index := Scalar.indexCast v144
  let c768_58 : Index := 768#32
  ![v145.toNat, 768]
def k0_off9 (i : grid0.Coords) (c0_i32_66 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v166 : BitVec 32 := Scalar.addi v1 c0_i32_66
  let v167 : Index := Scalar.indexCast v166
  let c896_67 : Index := 896#32
  ![v167.toNat, 896]
def k0_off10 (i : grid0.Coords) (c0_i32_75 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v188 : BitVec 32 := Scalar.addi v1 c0_i32_75
  let v189 : Index := Scalar.indexCast v188
  let c1024_76 : Index := 1024#32
  ![v189.toNat, 1024]
def k0_off11 (i : grid0.Coords) (c0_i32_84 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v210 : BitVec 32 := Scalar.addi v1 c0_i32_84
  let v211 : Index := Scalar.indexCast v210
  let c1152_85 : Index := 1152#32
  ![v211.toNat, 1152]
def k0_off12 (i : grid0.Coords) (c0_i32_93 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v232 : BitVec 32 := Scalar.addi v1 c0_i32_93
  let v233 : Index := Scalar.indexCast v232
  let c1280_94 : Index := 1280#32
  ![v233.toNat, 1280]
def k0_off13 (i : grid0.Coords) (c0_i32_102 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v254 : BitVec 32 := Scalar.addi v1 c0_i32_102
  let v255 : Index := Scalar.indexCast v254
  let c1408_103 : Index := 1408#32
  ![v255.toNat, 1408]
def k0_off14 (i : grid0.Coords) (c0_i32_111 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v276 : BitVec 32 := Scalar.addi v1 c0_i32_111
  let v277 : Index := Scalar.indexCast v276
  let c1536_112 : Index := 1536#32
  ![v277.toNat, 1536]
def k0_off15 (i : grid0.Coords) (c0_i32_120 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v298 : BitVec 32 := Scalar.addi v1 c0_i32_120
  let v299 : Index := Scalar.indexCast v298
  let c1664_121 : Index := 1664#32
  ![v299.toNat, 1664]
def k0_off16 (i : grid0.Coords) (c0_i32_129 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v320 : BitVec 32 := Scalar.addi v1 c0_i32_129
  let v321 : Index := Scalar.indexCast v320
  let c1792_130 : Index := 1792#32
  ![v321.toNat, 1792]
def k0_off17 (i : grid0.Coords) (c0_i32_138 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v342 : BitVec 32 := Scalar.addi v1 c0_i32_138
  let v343 : Index := Scalar.indexCast v342
  let c1920_139 : Index := 1920#32
  ![v343.toNat, 1920]
def k0_off18 (i : grid0.Coords) (c0_i32_147 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v364 : BitVec 32 := Scalar.addi v1 c0_i32_147
  let v365 : Index := Scalar.indexCast v364
  let c2048_148 : Index := 2048#32
  ![v365.toNat, 2048]
def k0_off19 (i : grid0.Coords) (c0_i32_156 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v386 : BitVec 32 := Scalar.addi v1 c0_i32_156
  let v387 : Index := Scalar.indexCast v386
  let c2176_157 : Index := 2176#32
  ![v387.toNat, 2176]
def k0_off20 (i : grid0.Coords) (c0_i32_165 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v408 : BitVec 32 := Scalar.addi v1 c0_i32_165
  let v409 : Index := Scalar.indexCast v408
  let c2304_166 : Index := 2304#32
  ![v409.toNat, 2304]
def k0_off21 (i : grid0.Coords) (c0_i32_174 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v430 : BitVec 32 := Scalar.addi v1 c0_i32_174
  let v431 : Index := Scalar.indexCast v430
  let c2432_175 : Index := 2432#32
  ![v431.toNat, 2432]
def k0_off22 (i : grid0.Coords) (c0_i32_183 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v452 : BitVec 32 := Scalar.addi v1 c0_i32_183
  let v453 : Index := Scalar.indexCast v452
  let c2560_184 : Index := 2560#32
  ![v453.toNat, 2560]
def k0_off23 (i : grid0.Coords) (c0_i32_192 : BitVec 32) : Fin 2 → Nat :=
  let arg0 : BitVec 32 := BitVec.ofNat 32 (i 0).val
  let c128_i32 : BitVec 32 := 128#32
  let v0 : BitVec 32 := Scalar.muli arg0 c128_i32
  let v1 : BitVec 32 := v0
  let v474 : BitVec 32 := Scalar.addi v1 c0_i32_192
  let v475 : Index := Scalar.indexCast v474
  let c2688_193 : Index := 2688#32
  ![v475.toNat, 2688]
def k0_off24 (i : grid0.Coords) (c0_i32_871 : BitVec 32) (c0_i32_872 : BitVec 32) : Fin 1 → Nat :=
  let arg0 : BitVec 32 := BitVec.ofNat 32 (i 0).val
  let c128_i32 : BitVec 32 := 128#32
  let v0 : BitVec 32 := Scalar.muli arg0 c128_i32
  let v1 : BitVec 32 := v0
  let v1958 : BitVec 32 := Scalar.addi v1 c0_i32_871
  let v1959 : BitVec 32 := Scalar.addi v1958 c0_i32_872
  let v1960 : Index := Scalar.indexCast v1959
  ![v1960.toNat]
def k0_off25 (i : grid0.Coords) (c0_i32_857 : BitVec 32) (c32_i32_875 : BitVec 32) (c0_i32_876 : BitVec 32) : Fin 1 → Nat :=
  let arg0 : BitVec 32 := BitVec.ofNat 32 (i 0).val
  let c128_i32 : BitVec 32 := 128#32
  let v0 : BitVec 32 := Scalar.muli arg0 c128_i32
  let v1 : BitVec 32 := v0
  let v1946 : BitVec 32 := Scalar.addi v1 c0_i32_857
  let c32_i32 : BitVec 32 := 32#32
  let v1947 : BitVec 32 := Scalar.muli v1946 c32_i32
  let v1967 : BitVec 32 := Scalar.addi v1947 c32_i32_875
  let v1968 : BitVec 32 := Scalar.addi v1967 c0_i32_876
  let v1969 : Index := Scalar.indexCast v1968
  ![v1969.toNat]
def k0_off25_at (r : Fin 1984) : BitVec 32 × BitVec 32 × BitVec 32 :=
  if r.val < 992 then
    if r.val < 496 then
      if r.val < 248 then
        if r.val < 124 then
          if r.val < 62 then
            if r.val < 31 then
              if r.val < 15 then
                if r.val < 7 then
                  if r.val < 3 then
                    if r.val < 1 then
                      (0#32, 32#32, 0#32)
                    else
                      if r.val < 2 then
                        (0#32, 64#32, 0#32)
                      else
                        (0#32, 64#32, 1#32)
                  else
                    if r.val < 5 then
                      if r.val < 4 then
                        (0#32, 96#32, 0#32)
                      else
                        (0#32, 96#32, 1#32)
                    else
                      if r.val < 6 then
                        (0#32, 96#32, 2#32)
                      else
                        (0#32, 128#32, 0#32)
                else
                  if r.val < 11 then
                    if r.val < 9 then
                      if r.val < 8 then
                        (0#32, 160#32, 0#32)
                      else
                        (0#32, 192#32, 0#32)
                    else
                      if r.val < 10 then
                        (0#32, 224#32, 0#32)
                      else
                        (0#32, 128#32, 1#32)
                  else
                    if r.val < 13 then
                      if r.val < 12 then
                        (0#32, 160#32, 1#32)
                      else
                        (0#32, 192#32, 1#32)
                    else
                      if r.val < 14 then
                        (0#32, 224#32, 1#32)
                      else
                        (0#32, 128#32, 2#32)
              else
                if r.val < 23 then
                  if r.val < 19 then
                    if r.val < 17 then
                      if r.val < 16 then
                        (0#32, 160#32, 2#32)
                      else
                        (0#32, 192#32, 2#32)
                    else
                      if r.val < 18 then
                        (0#32, 224#32, 2#32)
                      else
                        (0#32, 128#32, 3#32)
                  else
                    if r.val < 21 then
                      if r.val < 20 then
                        (0#32, 160#32, 3#32)
                      else
                        (0#32, 192#32, 3#32)
                    else
                      if r.val < 22 then
                        (0#32, 224#32, 3#32)
                      else
                        (0#32, 160#32, 4#32)
                else
                  if r.val < 27 then
                    if r.val < 25 then
                      if r.val < 24 then
                        (0#32, 192#32, 4#32)
                      else
                        (0#32, 192#32, 5#32)
                    else
                      if r.val < 26 then
                        (0#32, 224#32, 4#32)
                      else
                        (0#32, 224#32, 5#32)
                  else
                    if r.val < 29 then
                      if r.val < 28 then
                        (0#32, 224#32, 6#32)
                      else
                        (0#32, 256#32, 0#32)
                    else
                      if r.val < 30 then
                        (0#32, 288#32, 0#32)
                      else
                        (0#32, 320#32, 0#32)
            else
              if r.val < 46 then
                if r.val < 38 then
                  if r.val < 34 then
                    if r.val < 32 then
                      (0#32, 352#32, 0#32)
                    else
                      if r.val < 33 then
                        (0#32, 256#32, 1#32)
                      else
                        (0#32, 288#32, 1#32)
                  else
                    if r.val < 36 then
                      if r.val < 35 then
                        (0#32, 320#32, 1#32)
                      else
                        (0#32, 352#32, 1#32)
                    else
                      if r.val < 37 then
                        (0#32, 256#32, 2#32)
                      else
                        (0#32, 288#32, 2#32)
                else
                  if r.val < 42 then
                    if r.val < 40 then
                      if r.val < 39 then
                        (0#32, 320#32, 2#32)
                      else
                        (0#32, 352#32, 2#32)
                    else
                      if r.val < 41 then
                        (0#32, 256#32, 3#32)
                      else
                        (0#32, 288#32, 3#32)
                  else
                    if r.val < 44 then
                      if r.val < 43 then
                        (0#32, 320#32, 3#32)
                      else
                        (0#32, 352#32, 3#32)
                    else
                      if r.val < 45 then
                        (0#32, 256#32, 4#32)
                      else
                        (0#32, 288#32, 4#32)
              else
                if r.val < 54 then
                  if r.val < 50 then
                    if r.val < 48 then
                      if r.val < 47 then
                        (0#32, 320#32, 4#32)
                      else
                        (0#32, 352#32, 4#32)
                    else
                      if r.val < 49 then
                        (0#32, 256#32, 5#32)
                      else
                        (0#32, 288#32, 5#32)
                  else
                    if r.val < 52 then
                      if r.val < 51 then
                        (0#32, 320#32, 5#32)
                      else
                        (0#32, 352#32, 5#32)
                    else
                      if r.val < 53 then
                        (0#32, 256#32, 6#32)
                      else
                        (0#32, 288#32, 6#32)
                else
                  if r.val < 58 then
                    if r.val < 56 then
                      if r.val < 55 then
                        (0#32, 320#32, 6#32)
                      else
                        (0#32, 352#32, 6#32)
                    else
                      if r.val < 57 then
                        (0#32, 256#32, 7#32)
                      else
                        (0#32, 288#32, 7#32)
                  else
                    if r.val < 60 then
                      if r.val < 59 then
                        (0#32, 320#32, 7#32)
                      else
                        (0#32, 352#32, 7#32)
                    else
                      if r.val < 61 then
                        (0#32, 288#32, 8#32)
                      else
                        (0#32, 320#32, 8#32)
          else
            if r.val < 93 then
              if r.val < 77 then
                if r.val < 69 then
                  if r.val < 65 then
                    if r.val < 63 then
                      (0#32, 320#32, 9#32)
                    else
                      if r.val < 64 then
                        (0#32, 352#32, 8#32)
                      else
                        (0#32, 352#32, 9#32)
                  else
                    if r.val < 67 then
                      if r.val < 66 then
                        (0#32, 352#32, 10#32)
                      else
                        (0#32, 384#32, 0#32)
                    else
                      if r.val < 68 then
                        (0#32, 416#32, 0#32)
                      else
                        (0#32, 448#32, 0#32)
                else
                  if r.val < 73 then
                    if r.val < 71 then
                      if r.val < 70 then
                        (0#32, 480#32, 0#32)
                      else
                        (0#32, 384#32, 1#32)
                    else
                      if r.val < 72 then
                        (0#32, 416#32, 1#32)
                      else
                        (0#32, 448#32, 1#32)
                  else
                    if r.val < 75 then
                      if r.val < 74 then
                        (0#32, 480#32, 1#32)
                      else
                        (0#32, 384#32, 2#32)
                    else
                      if r.val < 76 then
                        (0#32, 416#32, 2#32)
                      else
                        (0#32, 448#32, 2#32)
              else
                if r.val < 85 then
                  if r.val < 81 then
                    if r.val < 79 then
                      if r.val < 78 then
                        (0#32, 480#32, 2#32)
                      else
                        (0#32, 384#32, 3#32)
                    else
                      if r.val < 80 then
                        (0#32, 416#32, 3#32)
                      else
                        (0#32, 448#32, 3#32)
                  else
                    if r.val < 83 then
                      if r.val < 82 then
                        (0#32, 480#32, 3#32)
                      else
                        (0#32, 384#32, 4#32)
                    else
                      if r.val < 84 then
                        (0#32, 416#32, 4#32)
                      else
                        (0#32, 448#32, 4#32)
                else
                  if r.val < 89 then
                    if r.val < 87 then
                      if r.val < 86 then
                        (0#32, 480#32, 4#32)
                      else
                        (0#32, 384#32, 5#32)
                    else
                      if r.val < 88 then
                        (0#32, 416#32, 5#32)
                      else
                        (0#32, 448#32, 5#32)
                  else
                    if r.val < 91 then
                      if r.val < 90 then
                        (0#32, 480#32, 5#32)
                      else
                        (0#32, 384#32, 6#32)
                    else
                      if r.val < 92 then
                        (0#32, 416#32, 6#32)
                      else
                        (0#32, 448#32, 6#32)
            else
              if r.val < 108 then
                if r.val < 100 then
                  if r.val < 96 then
                    if r.val < 94 then
                      (0#32, 480#32, 6#32)
                    else
                      if r.val < 95 then
                        (0#32, 384#32, 7#32)
                      else
                        (0#32, 416#32, 7#32)
                  else
                    if r.val < 98 then
                      if r.val < 97 then
                        (0#32, 448#32, 7#32)
                      else
                        (0#32, 480#32, 7#32)
                    else
                      if r.val < 99 then
                        (0#32, 384#32, 8#32)
                      else
                        (0#32, 416#32, 8#32)
                else
                  if r.val < 104 then
                    if r.val < 102 then
                      if r.val < 101 then
                        (0#32, 448#32, 8#32)
                      else
                        (0#32, 480#32, 8#32)
                    else
                      if r.val < 103 then
                        (0#32, 384#32, 9#32)
                      else
                        (0#32, 416#32, 9#32)
                  else
                    if r.val < 106 then
                      if r.val < 105 then
                        (0#32, 448#32, 9#32)
                      else
                        (0#32, 480#32, 9#32)
                    else
                      if r.val < 107 then
                        (0#32, 384#32, 10#32)
                      else
                        (0#32, 416#32, 10#32)
              else
                if r.val < 116 then
                  if r.val < 112 then
                    if r.val < 110 then
                      if r.val < 109 then
                        (0#32, 448#32, 10#32)
                      else
                        (0#32, 480#32, 10#32)
                    else
                      if r.val < 111 then
                        (0#32, 384#32, 11#32)
                      else
                        (0#32, 416#32, 11#32)
                  else
                    if r.val < 114 then
                      if r.val < 113 then
                        (0#32, 448#32, 11#32)
                      else
                        (0#32, 480#32, 11#32)
                    else
                      if r.val < 115 then
                        (0#32, 416#32, 12#32)
                      else
                        (0#32, 448#32, 12#32)
                else
                  if r.val < 120 then
                    if r.val < 118 then
                      if r.val < 117 then
                        (0#32, 448#32, 13#32)
                      else
                        (0#32, 480#32, 12#32)
                    else
                      if r.val < 119 then
                        (0#32, 480#32, 13#32)
                      else
                        (0#32, 480#32, 14#32)
                  else
                    if r.val < 122 then
                      if r.val < 121 then
                        (0#32, 512#32, 0#32)
                      else
                        (0#32, 544#32, 0#32)
                    else
                      if r.val < 123 then
                        (0#32, 576#32, 0#32)
                      else
                        (0#32, 608#32, 0#32)
        else
          if r.val < 186 then
            if r.val < 155 then
              if r.val < 139 then
                if r.val < 131 then
                  if r.val < 127 then
                    if r.val < 125 then
                      (0#32, 512#32, 1#32)
                    else
                      if r.val < 126 then
                        (0#32, 544#32, 1#32)
                      else
                        (0#32, 576#32, 1#32)
                  else
                    if r.val < 129 then
                      if r.val < 128 then
                        (0#32, 608#32, 1#32)
                      else
                        (0#32, 512#32, 2#32)
                    else
                      if r.val < 130 then
                        (0#32, 544#32, 2#32)
                      else
                        (0#32, 576#32, 2#32)
                else
                  if r.val < 135 then
                    if r.val < 133 then
                      if r.val < 132 then
                        (0#32, 608#32, 2#32)
                      else
                        (0#32, 512#32, 3#32)
                    else
                      if r.val < 134 then
                        (0#32, 544#32, 3#32)
                      else
                        (0#32, 576#32, 3#32)
                  else
                    if r.val < 137 then
                      if r.val < 136 then
                        (0#32, 608#32, 3#32)
                      else
                        (0#32, 512#32, 4#32)
                    else
                      if r.val < 138 then
                        (0#32, 544#32, 4#32)
                      else
                        (0#32, 576#32, 4#32)
              else
                if r.val < 147 then
                  if r.val < 143 then
                    if r.val < 141 then
                      if r.val < 140 then
                        (0#32, 608#32, 4#32)
                      else
                        (0#32, 512#32, 5#32)
                    else
                      if r.val < 142 then
                        (0#32, 544#32, 5#32)
                      else
                        (0#32, 576#32, 5#32)
                  else
                    if r.val < 145 then
                      if r.val < 144 then
                        (0#32, 608#32, 5#32)
                      else
                        (0#32, 512#32, 6#32)
                    else
                      if r.val < 146 then
                        (0#32, 544#32, 6#32)
                      else
                        (0#32, 576#32, 6#32)
                else
                  if r.val < 151 then
                    if r.val < 149 then
                      if r.val < 148 then
                        (0#32, 608#32, 6#32)
                      else
                        (0#32, 512#32, 7#32)
                    else
                      if r.val < 150 then
                        (0#32, 544#32, 7#32)
                      else
                        (0#32, 576#32, 7#32)
                  else
                    if r.val < 153 then
                      if r.val < 152 then
                        (0#32, 608#32, 7#32)
                      else
                        (0#32, 512#32, 8#32)
                    else
                      if r.val < 154 then
                        (0#32, 544#32, 8#32)
                      else
                        (0#32, 576#32, 8#32)
            else
              if r.val < 170 then
                if r.val < 162 then
                  if r.val < 158 then
                    if r.val < 156 then
                      (0#32, 608#32, 8#32)
                    else
                      if r.val < 157 then
                        (0#32, 512#32, 9#32)
                      else
                        (0#32, 544#32, 9#32)
                  else
                    if r.val < 160 then
                      if r.val < 159 then
                        (0#32, 576#32, 9#32)
                      else
                        (0#32, 608#32, 9#32)
                    else
                      if r.val < 161 then
                        (0#32, 512#32, 10#32)
                      else
                        (0#32, 544#32, 10#32)
                else
                  if r.val < 166 then
                    if r.val < 164 then
                      if r.val < 163 then
                        (0#32, 576#32, 10#32)
                      else
                        (0#32, 608#32, 10#32)
                    else
                      if r.val < 165 then
                        (0#32, 512#32, 11#32)
                      else
                        (0#32, 544#32, 11#32)
                  else
                    if r.val < 168 then
                      if r.val < 167 then
                        (0#32, 576#32, 11#32)
                      else
                        (0#32, 608#32, 11#32)
                    else
                      if r.val < 169 then
                        (0#32, 512#32, 12#32)
                      else
                        (0#32, 544#32, 12#32)
              else
                if r.val < 178 then
                  if r.val < 174 then
                    if r.val < 172 then
                      if r.val < 171 then
                        (0#32, 576#32, 12#32)
                      else
                        (0#32, 608#32, 12#32)
                    else
                      if r.val < 173 then
                        (0#32, 512#32, 13#32)
                      else
                        (0#32, 544#32, 13#32)
                  else
                    if r.val < 176 then
                      if r.val < 175 then
                        (0#32, 576#32, 13#32)
                      else
                        (0#32, 608#32, 13#32)
                    else
                      if r.val < 177 then
                        (0#32, 512#32, 14#32)
                      else
                        (0#32, 544#32, 14#32)
                else
                  if r.val < 182 then
                    if r.val < 180 then
                      if r.val < 179 then
                        (0#32, 576#32, 14#32)
                      else
                        (0#32, 608#32, 14#32)
                    else
                      if r.val < 181 then
                        (0#32, 512#32, 15#32)
                      else
                        (0#32, 544#32, 15#32)
                  else
                    if r.val < 184 then
                      if r.val < 183 then
                        (0#32, 576#32, 15#32)
                      else
                        (0#32, 608#32, 15#32)
                    else
                      if r.val < 185 then
                        (0#32, 544#32, 16#32)
                      else
                        (0#32, 576#32, 16#32)
          else
            if r.val < 217 then
              if r.val < 201 then
                if r.val < 193 then
                  if r.val < 189 then
                    if r.val < 187 then
                      (0#32, 576#32, 17#32)
                    else
                      if r.val < 188 then
                        (0#32, 608#32, 16#32)
                      else
                        (0#32, 608#32, 17#32)
                  else
                    if r.val < 191 then
                      if r.val < 190 then
                        (0#32, 608#32, 18#32)
                      else
                        (0#32, 640#32, 0#32)
                    else
                      if r.val < 192 then
                        (0#32, 672#32, 0#32)
                      else
                        (0#32, 704#32, 0#32)
                else
                  if r.val < 197 then
                    if r.val < 195 then
                      if r.val < 194 then
                        (0#32, 736#32, 0#32)
                      else
                        (0#32, 640#32, 1#32)
                    else
                      if r.val < 196 then
                        (0#32, 672#32, 1#32)
                      else
                        (0#32, 704#32, 1#32)
                  else
                    if r.val < 199 then
                      if r.val < 198 then
                        (0#32, 736#32, 1#32)
                      else
                        (0#32, 640#32, 2#32)
                    else
                      if r.val < 200 then
                        (0#32, 672#32, 2#32)
                      else
                        (0#32, 704#32, 2#32)
              else
                if r.val < 209 then
                  if r.val < 205 then
                    if r.val < 203 then
                      if r.val < 202 then
                        (0#32, 736#32, 2#32)
                      else
                        (0#32, 640#32, 3#32)
                    else
                      if r.val < 204 then
                        (0#32, 672#32, 3#32)
                      else
                        (0#32, 704#32, 3#32)
                  else
                    if r.val < 207 then
                      if r.val < 206 then
                        (0#32, 736#32, 3#32)
                      else
                        (0#32, 640#32, 4#32)
                    else
                      if r.val < 208 then
                        (0#32, 672#32, 4#32)
                      else
                        (0#32, 704#32, 4#32)
                else
                  if r.val < 213 then
                    if r.val < 211 then
                      if r.val < 210 then
                        (0#32, 736#32, 4#32)
                      else
                        (0#32, 640#32, 5#32)
                    else
                      if r.val < 212 then
                        (0#32, 672#32, 5#32)
                      else
                        (0#32, 704#32, 5#32)
                  else
                    if r.val < 215 then
                      if r.val < 214 then
                        (0#32, 736#32, 5#32)
                      else
                        (0#32, 640#32, 6#32)
                    else
                      if r.val < 216 then
                        (0#32, 672#32, 6#32)
                      else
                        (0#32, 704#32, 6#32)
            else
              if r.val < 232 then
                if r.val < 224 then
                  if r.val < 220 then
                    if r.val < 218 then
                      (0#32, 736#32, 6#32)
                    else
                      if r.val < 219 then
                        (0#32, 640#32, 7#32)
                      else
                        (0#32, 672#32, 7#32)
                  else
                    if r.val < 222 then
                      if r.val < 221 then
                        (0#32, 704#32, 7#32)
                      else
                        (0#32, 736#32, 7#32)
                    else
                      if r.val < 223 then
                        (0#32, 640#32, 8#32)
                      else
                        (0#32, 672#32, 8#32)
                else
                  if r.val < 228 then
                    if r.val < 226 then
                      if r.val < 225 then
                        (0#32, 704#32, 8#32)
                      else
                        (0#32, 736#32, 8#32)
                    else
                      if r.val < 227 then
                        (0#32, 640#32, 9#32)
                      else
                        (0#32, 672#32, 9#32)
                  else
                    if r.val < 230 then
                      if r.val < 229 then
                        (0#32, 704#32, 9#32)
                      else
                        (0#32, 736#32, 9#32)
                    else
                      if r.val < 231 then
                        (0#32, 640#32, 10#32)
                      else
                        (0#32, 672#32, 10#32)
              else
                if r.val < 240 then
                  if r.val < 236 then
                    if r.val < 234 then
                      if r.val < 233 then
                        (0#32, 704#32, 10#32)
                      else
                        (0#32, 736#32, 10#32)
                    else
                      if r.val < 235 then
                        (0#32, 640#32, 11#32)
                      else
                        (0#32, 672#32, 11#32)
                  else
                    if r.val < 238 then
                      if r.val < 237 then
                        (0#32, 704#32, 11#32)
                      else
                        (0#32, 736#32, 11#32)
                    else
                      if r.val < 239 then
                        (0#32, 640#32, 12#32)
                      else
                        (0#32, 672#32, 12#32)
                else
                  if r.val < 244 then
                    if r.val < 242 then
                      if r.val < 241 then
                        (0#32, 704#32, 12#32)
                      else
                        (0#32, 736#32, 12#32)
                    else
                      if r.val < 243 then
                        (0#32, 640#32, 13#32)
                      else
                        (0#32, 672#32, 13#32)
                  else
                    if r.val < 246 then
                      if r.val < 245 then
                        (0#32, 704#32, 13#32)
                      else
                        (0#32, 736#32, 13#32)
                    else
                      if r.val < 247 then
                        (0#32, 640#32, 14#32)
                      else
                        (0#32, 672#32, 14#32)
      else
        if r.val < 372 then
          if r.val < 310 then
            if r.val < 279 then
              if r.val < 263 then
                if r.val < 255 then
                  if r.val < 251 then
                    if r.val < 249 then
                      (0#32, 704#32, 14#32)
                    else
                      if r.val < 250 then
                        (0#32, 736#32, 14#32)
                      else
                        (0#32, 640#32, 15#32)
                  else
                    if r.val < 253 then
                      if r.val < 252 then
                        (0#32, 672#32, 15#32)
                      else
                        (0#32, 704#32, 15#32)
                    else
                      if r.val < 254 then
                        (0#32, 736#32, 15#32)
                      else
                        (0#32, 640#32, 16#32)
                else
                  if r.val < 259 then
                    if r.val < 257 then
                      if r.val < 256 then
                        (0#32, 672#32, 16#32)
                      else
                        (0#32, 704#32, 16#32)
                    else
                      if r.val < 258 then
                        (0#32, 736#32, 16#32)
                      else
                        (0#32, 640#32, 17#32)
                  else
                    if r.val < 261 then
                      if r.val < 260 then
                        (0#32, 672#32, 17#32)
                      else
                        (0#32, 704#32, 17#32)
                    else
                      if r.val < 262 then
                        (0#32, 736#32, 17#32)
                      else
                        (0#32, 640#32, 18#32)
              else
                if r.val < 271 then
                  if r.val < 267 then
                    if r.val < 265 then
                      if r.val < 264 then
                        (0#32, 672#32, 18#32)
                      else
                        (0#32, 704#32, 18#32)
                    else
                      if r.val < 266 then
                        (0#32, 736#32, 18#32)
                      else
                        (0#32, 640#32, 19#32)
                  else
                    if r.val < 269 then
                      if r.val < 268 then
                        (0#32, 672#32, 19#32)
                      else
                        (0#32, 704#32, 19#32)
                    else
                      if r.val < 270 then
                        (0#32, 736#32, 19#32)
                      else
                        (0#32, 672#32, 20#32)
                else
                  if r.val < 275 then
                    if r.val < 273 then
                      if r.val < 272 then
                        (0#32, 704#32, 20#32)
                      else
                        (0#32, 704#32, 21#32)
                    else
                      if r.val < 274 then
                        (0#32, 736#32, 20#32)
                      else
                        (0#32, 736#32, 21#32)
                  else
                    if r.val < 277 then
                      if r.val < 276 then
                        (0#32, 736#32, 22#32)
                      else
                        (0#32, 768#32, 0#32)
                    else
                      if r.val < 278 then
                        (0#32, 800#32, 0#32)
                      else
                        (0#32, 832#32, 0#32)
            else
              if r.val < 294 then
                if r.val < 286 then
                  if r.val < 282 then
                    if r.val < 280 then
                      (0#32, 864#32, 0#32)
                    else
                      if r.val < 281 then
                        (0#32, 768#32, 1#32)
                      else
                        (0#32, 800#32, 1#32)
                  else
                    if r.val < 284 then
                      if r.val < 283 then
                        (0#32, 832#32, 1#32)
                      else
                        (0#32, 864#32, 1#32)
                    else
                      if r.val < 285 then
                        (0#32, 768#32, 2#32)
                      else
                        (0#32, 800#32, 2#32)
                else
                  if r.val < 290 then
                    if r.val < 288 then
                      if r.val < 287 then
                        (0#32, 832#32, 2#32)
                      else
                        (0#32, 864#32, 2#32)
                    else
                      if r.val < 289 then
                        (0#32, 768#32, 3#32)
                      else
                        (0#32, 800#32, 3#32)
                  else
                    if r.val < 292 then
                      if r.val < 291 then
                        (0#32, 832#32, 3#32)
                      else
                        (0#32, 864#32, 3#32)
                    else
                      if r.val < 293 then
                        (0#32, 768#32, 4#32)
                      else
                        (0#32, 800#32, 4#32)
              else
                if r.val < 302 then
                  if r.val < 298 then
                    if r.val < 296 then
                      if r.val < 295 then
                        (0#32, 832#32, 4#32)
                      else
                        (0#32, 864#32, 4#32)
                    else
                      if r.val < 297 then
                        (0#32, 768#32, 5#32)
                      else
                        (0#32, 800#32, 5#32)
                  else
                    if r.val < 300 then
                      if r.val < 299 then
                        (0#32, 832#32, 5#32)
                      else
                        (0#32, 864#32, 5#32)
                    else
                      if r.val < 301 then
                        (0#32, 768#32, 6#32)
                      else
                        (0#32, 800#32, 6#32)
                else
                  if r.val < 306 then
                    if r.val < 304 then
                      if r.val < 303 then
                        (0#32, 832#32, 6#32)
                      else
                        (0#32, 864#32, 6#32)
                    else
                      if r.val < 305 then
                        (0#32, 768#32, 7#32)
                      else
                        (0#32, 800#32, 7#32)
                  else
                    if r.val < 308 then
                      if r.val < 307 then
                        (0#32, 832#32, 7#32)
                      else
                        (0#32, 864#32, 7#32)
                    else
                      if r.val < 309 then
                        (0#32, 768#32, 8#32)
                      else
                        (0#32, 800#32, 8#32)
          else
            if r.val < 341 then
              if r.val < 325 then
                if r.val < 317 then
                  if r.val < 313 then
                    if r.val < 311 then
                      (0#32, 832#32, 8#32)
                    else
                      if r.val < 312 then
                        (0#32, 864#32, 8#32)
                      else
                        (0#32, 768#32, 9#32)
                  else
                    if r.val < 315 then
                      if r.val < 314 then
                        (0#32, 800#32, 9#32)
                      else
                        (0#32, 832#32, 9#32)
                    else
                      if r.val < 316 then
                        (0#32, 864#32, 9#32)
                      else
                        (0#32, 768#32, 10#32)
                else
                  if r.val < 321 then
                    if r.val < 319 then
                      if r.val < 318 then
                        (0#32, 800#32, 10#32)
                      else
                        (0#32, 832#32, 10#32)
                    else
                      if r.val < 320 then
                        (0#32, 864#32, 10#32)
                      else
                        (0#32, 768#32, 11#32)
                  else
                    if r.val < 323 then
                      if r.val < 322 then
                        (0#32, 800#32, 11#32)
                      else
                        (0#32, 832#32, 11#32)
                    else
                      if r.val < 324 then
                        (0#32, 864#32, 11#32)
                      else
                        (0#32, 768#32, 12#32)
              else
                if r.val < 333 then
                  if r.val < 329 then
                    if r.val < 327 then
                      if r.val < 326 then
                        (0#32, 800#32, 12#32)
                      else
                        (0#32, 832#32, 12#32)
                    else
                      if r.val < 328 then
                        (0#32, 864#32, 12#32)
                      else
                        (0#32, 768#32, 13#32)
                  else
                    if r.val < 331 then
                      if r.val < 330 then
                        (0#32, 800#32, 13#32)
                      else
                        (0#32, 832#32, 13#32)
                    else
                      if r.val < 332 then
                        (0#32, 864#32, 13#32)
                      else
                        (0#32, 768#32, 14#32)
                else
                  if r.val < 337 then
                    if r.val < 335 then
                      if r.val < 334 then
                        (0#32, 800#32, 14#32)
                      else
                        (0#32, 832#32, 14#32)
                    else
                      if r.val < 336 then
                        (0#32, 864#32, 14#32)
                      else
                        (0#32, 768#32, 15#32)
                  else
                    if r.val < 339 then
                      if r.val < 338 then
                        (0#32, 800#32, 15#32)
                      else
                        (0#32, 832#32, 15#32)
                    else
                      if r.val < 340 then
                        (0#32, 864#32, 15#32)
                      else
                        (0#32, 768#32, 16#32)
            else
              if r.val < 356 then
                if r.val < 348 then
                  if r.val < 344 then
                    if r.val < 342 then
                      (0#32, 800#32, 16#32)
                    else
                      if r.val < 343 then
                        (0#32, 832#32, 16#32)
                      else
                        (0#32, 864#32, 16#32)
                  else
                    if r.val < 346 then
                      if r.val < 345 then
                        (0#32, 768#32, 17#32)
                      else
                        (0#32, 800#32, 17#32)
                    else
                      if r.val < 347 then
                        (0#32, 832#32, 17#32)
                      else
                        (0#32, 864#32, 17#32)
                else
                  if r.val < 352 then
                    if r.val < 350 then
                      if r.val < 349 then
                        (0#32, 768#32, 18#32)
                      else
                        (0#32, 800#32, 18#32)
                    else
                      if r.val < 351 then
                        (0#32, 832#32, 18#32)
                      else
                        (0#32, 864#32, 18#32)
                  else
                    if r.val < 354 then
                      if r.val < 353 then
                        (0#32, 768#32, 19#32)
                      else
                        (0#32, 800#32, 19#32)
                    else
                      if r.val < 355 then
                        (0#32, 832#32, 19#32)
                      else
                        (0#32, 864#32, 19#32)
              else
                if r.val < 364 then
                  if r.val < 360 then
                    if r.val < 358 then
                      if r.val < 357 then
                        (0#32, 768#32, 20#32)
                      else
                        (0#32, 800#32, 20#32)
                    else
                      if r.val < 359 then
                        (0#32, 832#32, 20#32)
                      else
                        (0#32, 864#32, 20#32)
                  else
                    if r.val < 362 then
                      if r.val < 361 then
                        (0#32, 768#32, 21#32)
                      else
                        (0#32, 800#32, 21#32)
                    else
                      if r.val < 363 then
                        (0#32, 832#32, 21#32)
                      else
                        (0#32, 864#32, 21#32)
                else
                  if r.val < 368 then
                    if r.val < 366 then
                      if r.val < 365 then
                        (0#32, 768#32, 22#32)
                      else
                        (0#32, 800#32, 22#32)
                    else
                      if r.val < 367 then
                        (0#32, 832#32, 22#32)
                      else
                        (0#32, 864#32, 22#32)
                  else
                    if r.val < 370 then
                      if r.val < 369 then
                        (0#32, 768#32, 23#32)
                      else
                        (0#32, 800#32, 23#32)
                    else
                      if r.val < 371 then
                        (0#32, 832#32, 23#32)
                      else
                        (0#32, 864#32, 23#32)
        else
          if r.val < 434 then
            if r.val < 403 then
              if r.val < 387 then
                if r.val < 379 then
                  if r.val < 375 then
                    if r.val < 373 then
                      (0#32, 800#32, 24#32)
                    else
                      if r.val < 374 then
                        (0#32, 832#32, 24#32)
                      else
                        (0#32, 832#32, 25#32)
                  else
                    if r.val < 377 then
                      if r.val < 376 then
                        (0#32, 864#32, 24#32)
                      else
                        (0#32, 864#32, 25#32)
                    else
                      if r.val < 378 then
                        (0#32, 864#32, 26#32)
                      else
                        (0#32, 896#32, 0#32)
                else
                  if r.val < 383 then
                    if r.val < 381 then
                      if r.val < 380 then
                        (0#32, 928#32, 0#32)
                      else
                        (0#32, 960#32, 0#32)
                    else
                      if r.val < 382 then
                        (0#32, 992#32, 0#32)
                      else
                        (0#32, 896#32, 1#32)
                  else
                    if r.val < 385 then
                      if r.val < 384 then
                        (0#32, 928#32, 1#32)
                      else
                        (0#32, 960#32, 1#32)
                    else
                      if r.val < 386 then
                        (0#32, 992#32, 1#32)
                      else
                        (0#32, 896#32, 2#32)
              else
                if r.val < 395 then
                  if r.val < 391 then
                    if r.val < 389 then
                      if r.val < 388 then
                        (0#32, 928#32, 2#32)
                      else
                        (0#32, 960#32, 2#32)
                    else
                      if r.val < 390 then
                        (0#32, 992#32, 2#32)
                      else
                        (0#32, 896#32, 3#32)
                  else
                    if r.val < 393 then
                      if r.val < 392 then
                        (0#32, 928#32, 3#32)
                      else
                        (0#32, 960#32, 3#32)
                    else
                      if r.val < 394 then
                        (0#32, 992#32, 3#32)
                      else
                        (0#32, 896#32, 4#32)
                else
                  if r.val < 399 then
                    if r.val < 397 then
                      if r.val < 396 then
                        (0#32, 928#32, 4#32)
                      else
                        (0#32, 960#32, 4#32)
                    else
                      if r.val < 398 then
                        (0#32, 992#32, 4#32)
                      else
                        (0#32, 896#32, 5#32)
                  else
                    if r.val < 401 then
                      if r.val < 400 then
                        (0#32, 928#32, 5#32)
                      else
                        (0#32, 960#32, 5#32)
                    else
                      if r.val < 402 then
                        (0#32, 992#32, 5#32)
                      else
                        (0#32, 896#32, 6#32)
            else
              if r.val < 418 then
                if r.val < 410 then
                  if r.val < 406 then
                    if r.val < 404 then
                      (0#32, 928#32, 6#32)
                    else
                      if r.val < 405 then
                        (0#32, 960#32, 6#32)
                      else
                        (0#32, 992#32, 6#32)
                  else
                    if r.val < 408 then
                      if r.val < 407 then
                        (0#32, 896#32, 7#32)
                      else
                        (0#32, 928#32, 7#32)
                    else
                      if r.val < 409 then
                        (0#32, 960#32, 7#32)
                      else
                        (0#32, 992#32, 7#32)
                else
                  if r.val < 414 then
                    if r.val < 412 then
                      if r.val < 411 then
                        (0#32, 896#32, 8#32)
                      else
                        (0#32, 928#32, 8#32)
                    else
                      if r.val < 413 then
                        (0#32, 960#32, 8#32)
                      else
                        (0#32, 992#32, 8#32)
                  else
                    if r.val < 416 then
                      if r.val < 415 then
                        (0#32, 896#32, 9#32)
                      else
                        (0#32, 928#32, 9#32)
                    else
                      if r.val < 417 then
                        (0#32, 960#32, 9#32)
                      else
                        (0#32, 992#32, 9#32)
              else
                if r.val < 426 then
                  if r.val < 422 then
                    if r.val < 420 then
                      if r.val < 419 then
                        (0#32, 896#32, 10#32)
                      else
                        (0#32, 928#32, 10#32)
                    else
                      if r.val < 421 then
                        (0#32, 960#32, 10#32)
                      else
                        (0#32, 992#32, 10#32)
                  else
                    if r.val < 424 then
                      if r.val < 423 then
                        (0#32, 896#32, 11#32)
                      else
                        (0#32, 928#32, 11#32)
                    else
                      if r.val < 425 then
                        (0#32, 960#32, 11#32)
                      else
                        (0#32, 992#32, 11#32)
                else
                  if r.val < 430 then
                    if r.val < 428 then
                      if r.val < 427 then
                        (0#32, 896#32, 12#32)
                      else
                        (0#32, 928#32, 12#32)
                    else
                      if r.val < 429 then
                        (0#32, 960#32, 12#32)
                      else
                        (0#32, 992#32, 12#32)
                  else
                    if r.val < 432 then
                      if r.val < 431 then
                        (0#32, 896#32, 13#32)
                      else
                        (0#32, 928#32, 13#32)
                    else
                      if r.val < 433 then
                        (0#32, 960#32, 13#32)
                      else
                        (0#32, 992#32, 13#32)
          else
            if r.val < 465 then
              if r.val < 449 then
                if r.val < 441 then
                  if r.val < 437 then
                    if r.val < 435 then
                      (0#32, 896#32, 14#32)
                    else
                      if r.val < 436 then
                        (0#32, 928#32, 14#32)
                      else
                        (0#32, 960#32, 14#32)
                  else
                    if r.val < 439 then
                      if r.val < 438 then
                        (0#32, 992#32, 14#32)
                      else
                        (0#32, 896#32, 15#32)
                    else
                      if r.val < 440 then
                        (0#32, 928#32, 15#32)
                      else
                        (0#32, 960#32, 15#32)
                else
                  if r.val < 445 then
                    if r.val < 443 then
                      if r.val < 442 then
                        (0#32, 992#32, 15#32)
                      else
                        (0#32, 896#32, 16#32)
                    else
                      if r.val < 444 then
                        (0#32, 928#32, 16#32)
                      else
                        (0#32, 960#32, 16#32)
                  else
                    if r.val < 447 then
                      if r.val < 446 then
                        (0#32, 992#32, 16#32)
                      else
                        (0#32, 896#32, 17#32)
                    else
                      if r.val < 448 then
                        (0#32, 928#32, 17#32)
                      else
                        (0#32, 960#32, 17#32)
              else
                if r.val < 457 then
                  if r.val < 453 then
                    if r.val < 451 then
                      if r.val < 450 then
                        (0#32, 992#32, 17#32)
                      else
                        (0#32, 896#32, 18#32)
                    else
                      if r.val < 452 then
                        (0#32, 928#32, 18#32)
                      else
                        (0#32, 960#32, 18#32)
                  else
                    if r.val < 455 then
                      if r.val < 454 then
                        (0#32, 992#32, 18#32)
                      else
                        (0#32, 896#32, 19#32)
                    else
                      if r.val < 456 then
                        (0#32, 928#32, 19#32)
                      else
                        (0#32, 960#32, 19#32)
                else
                  if r.val < 461 then
                    if r.val < 459 then
                      if r.val < 458 then
                        (0#32, 992#32, 19#32)
                      else
                        (0#32, 896#32, 20#32)
                    else
                      if r.val < 460 then
                        (0#32, 928#32, 20#32)
                      else
                        (0#32, 960#32, 20#32)
                  else
                    if r.val < 463 then
                      if r.val < 462 then
                        (0#32, 992#32, 20#32)
                      else
                        (0#32, 896#32, 21#32)
                    else
                      if r.val < 464 then
                        (0#32, 928#32, 21#32)
                      else
                        (0#32, 960#32, 21#32)
            else
              if r.val < 480 then
                if r.val < 472 then
                  if r.val < 468 then
                    if r.val < 466 then
                      (0#32, 992#32, 21#32)
                    else
                      if r.val < 467 then
                        (0#32, 896#32, 22#32)
                      else
                        (0#32, 928#32, 22#32)
                  else
                    if r.val < 470 then
                      if r.val < 469 then
                        (0#32, 960#32, 22#32)
                      else
                        (0#32, 992#32, 22#32)
                    else
                      if r.val < 471 then
                        (0#32, 896#32, 23#32)
                      else
                        (0#32, 928#32, 23#32)
                else
                  if r.val < 476 then
                    if r.val < 474 then
                      if r.val < 473 then
                        (0#32, 960#32, 23#32)
                      else
                        (0#32, 992#32, 23#32)
                    else
                      if r.val < 475 then
                        (0#32, 896#32, 24#32)
                      else
                        (0#32, 928#32, 24#32)
                  else
                    if r.val < 478 then
                      if r.val < 477 then
                        (0#32, 960#32, 24#32)
                      else
                        (0#32, 992#32, 24#32)
                    else
                      if r.val < 479 then
                        (0#32, 896#32, 25#32)
                      else
                        (0#32, 928#32, 25#32)
              else
                if r.val < 488 then
                  if r.val < 484 then
                    if r.val < 482 then
                      if r.val < 481 then
                        (0#32, 960#32, 25#32)
                      else
                        (0#32, 992#32, 25#32)
                    else
                      if r.val < 483 then
                        (0#32, 896#32, 26#32)
                      else
                        (0#32, 928#32, 26#32)
                  else
                    if r.val < 486 then
                      if r.val < 485 then
                        (0#32, 960#32, 26#32)
                      else
                        (0#32, 992#32, 26#32)
                    else
                      if r.val < 487 then
                        (0#32, 896#32, 27#32)
                      else
                        (0#32, 928#32, 27#32)
                else
                  if r.val < 492 then
                    if r.val < 490 then
                      if r.val < 489 then
                        (0#32, 960#32, 27#32)
                      else
                        (0#32, 992#32, 27#32)
                    else
                      if r.val < 491 then
                        (0#32, 928#32, 28#32)
                      else
                        (0#32, 960#32, 28#32)
                  else
                    if r.val < 494 then
                      if r.val < 493 then
                        (0#32, 960#32, 29#32)
                      else
                        (0#32, 992#32, 28#32)
                    else
                      if r.val < 495 then
                        (0#32, 992#32, 29#32)
                      else
                        (0#32, 992#32, 30#32)
    else
      if r.val < 744 then
        if r.val < 620 then
          if r.val < 558 then
            if r.val < 527 then
              if r.val < 511 then
                if r.val < 503 then
                  if r.val < 499 then
                    if r.val < 497 then
                      (32#32, 32#32, 0#32)
                    else
                      if r.val < 498 then
                        (32#32, 64#32, 0#32)
                      else
                        (32#32, 64#32, 1#32)
                  else
                    if r.val < 501 then
                      if r.val < 500 then
                        (32#32, 96#32, 0#32)
                      else
                        (32#32, 96#32, 1#32)
                    else
                      if r.val < 502 then
                        (32#32, 96#32, 2#32)
                      else
                        (32#32, 128#32, 0#32)
                else
                  if r.val < 507 then
                    if r.val < 505 then
                      if r.val < 504 then
                        (32#32, 160#32, 0#32)
                      else
                        (32#32, 192#32, 0#32)
                    else
                      if r.val < 506 then
                        (32#32, 224#32, 0#32)
                      else
                        (32#32, 128#32, 1#32)
                  else
                    if r.val < 509 then
                      if r.val < 508 then
                        (32#32, 160#32, 1#32)
                      else
                        (32#32, 192#32, 1#32)
                    else
                      if r.val < 510 then
                        (32#32, 224#32, 1#32)
                      else
                        (32#32, 128#32, 2#32)
              else
                if r.val < 519 then
                  if r.val < 515 then
                    if r.val < 513 then
                      if r.val < 512 then
                        (32#32, 160#32, 2#32)
                      else
                        (32#32, 192#32, 2#32)
                    else
                      if r.val < 514 then
                        (32#32, 224#32, 2#32)
                      else
                        (32#32, 128#32, 3#32)
                  else
                    if r.val < 517 then
                      if r.val < 516 then
                        (32#32, 160#32, 3#32)
                      else
                        (32#32, 192#32, 3#32)
                    else
                      if r.val < 518 then
                        (32#32, 224#32, 3#32)
                      else
                        (32#32, 160#32, 4#32)
                else
                  if r.val < 523 then
                    if r.val < 521 then
                      if r.val < 520 then
                        (32#32, 192#32, 4#32)
                      else
                        (32#32, 192#32, 5#32)
                    else
                      if r.val < 522 then
                        (32#32, 224#32, 4#32)
                      else
                        (32#32, 224#32, 5#32)
                  else
                    if r.val < 525 then
                      if r.val < 524 then
                        (32#32, 224#32, 6#32)
                      else
                        (32#32, 256#32, 0#32)
                    else
                      if r.val < 526 then
                        (32#32, 288#32, 0#32)
                      else
                        (32#32, 320#32, 0#32)
            else
              if r.val < 542 then
                if r.val < 534 then
                  if r.val < 530 then
                    if r.val < 528 then
                      (32#32, 352#32, 0#32)
                    else
                      if r.val < 529 then
                        (32#32, 256#32, 1#32)
                      else
                        (32#32, 288#32, 1#32)
                  else
                    if r.val < 532 then
                      if r.val < 531 then
                        (32#32, 320#32, 1#32)
                      else
                        (32#32, 352#32, 1#32)
                    else
                      if r.val < 533 then
                        (32#32, 256#32, 2#32)
                      else
                        (32#32, 288#32, 2#32)
                else
                  if r.val < 538 then
                    if r.val < 536 then
                      if r.val < 535 then
                        (32#32, 320#32, 2#32)
                      else
                        (32#32, 352#32, 2#32)
                    else
                      if r.val < 537 then
                        (32#32, 256#32, 3#32)
                      else
                        (32#32, 288#32, 3#32)
                  else
                    if r.val < 540 then
                      if r.val < 539 then
                        (32#32, 320#32, 3#32)
                      else
                        (32#32, 352#32, 3#32)
                    else
                      if r.val < 541 then
                        (32#32, 256#32, 4#32)
                      else
                        (32#32, 288#32, 4#32)
              else
                if r.val < 550 then
                  if r.val < 546 then
                    if r.val < 544 then
                      if r.val < 543 then
                        (32#32, 320#32, 4#32)
                      else
                        (32#32, 352#32, 4#32)
                    else
                      if r.val < 545 then
                        (32#32, 256#32, 5#32)
                      else
                        (32#32, 288#32, 5#32)
                  else
                    if r.val < 548 then
                      if r.val < 547 then
                        (32#32, 320#32, 5#32)
                      else
                        (32#32, 352#32, 5#32)
                    else
                      if r.val < 549 then
                        (32#32, 256#32, 6#32)
                      else
                        (32#32, 288#32, 6#32)
                else
                  if r.val < 554 then
                    if r.val < 552 then
                      if r.val < 551 then
                        (32#32, 320#32, 6#32)
                      else
                        (32#32, 352#32, 6#32)
                    else
                      if r.val < 553 then
                        (32#32, 256#32, 7#32)
                      else
                        (32#32, 288#32, 7#32)
                  else
                    if r.val < 556 then
                      if r.val < 555 then
                        (32#32, 320#32, 7#32)
                      else
                        (32#32, 352#32, 7#32)
                    else
                      if r.val < 557 then
                        (32#32, 288#32, 8#32)
                      else
                        (32#32, 320#32, 8#32)
          else
            if r.val < 589 then
              if r.val < 573 then
                if r.val < 565 then
                  if r.val < 561 then
                    if r.val < 559 then
                      (32#32, 320#32, 9#32)
                    else
                      if r.val < 560 then
                        (32#32, 352#32, 8#32)
                      else
                        (32#32, 352#32, 9#32)
                  else
                    if r.val < 563 then
                      if r.val < 562 then
                        (32#32, 352#32, 10#32)
                      else
                        (32#32, 384#32, 0#32)
                    else
                      if r.val < 564 then
                        (32#32, 416#32, 0#32)
                      else
                        (32#32, 448#32, 0#32)
                else
                  if r.val < 569 then
                    if r.val < 567 then
                      if r.val < 566 then
                        (32#32, 480#32, 0#32)
                      else
                        (32#32, 384#32, 1#32)
                    else
                      if r.val < 568 then
                        (32#32, 416#32, 1#32)
                      else
                        (32#32, 448#32, 1#32)
                  else
                    if r.val < 571 then
                      if r.val < 570 then
                        (32#32, 480#32, 1#32)
                      else
                        (32#32, 384#32, 2#32)
                    else
                      if r.val < 572 then
                        (32#32, 416#32, 2#32)
                      else
                        (32#32, 448#32, 2#32)
              else
                if r.val < 581 then
                  if r.val < 577 then
                    if r.val < 575 then
                      if r.val < 574 then
                        (32#32, 480#32, 2#32)
                      else
                        (32#32, 384#32, 3#32)
                    else
                      if r.val < 576 then
                        (32#32, 416#32, 3#32)
                      else
                        (32#32, 448#32, 3#32)
                  else
                    if r.val < 579 then
                      if r.val < 578 then
                        (32#32, 480#32, 3#32)
                      else
                        (32#32, 384#32, 4#32)
                    else
                      if r.val < 580 then
                        (32#32, 416#32, 4#32)
                      else
                        (32#32, 448#32, 4#32)
                else
                  if r.val < 585 then
                    if r.val < 583 then
                      if r.val < 582 then
                        (32#32, 480#32, 4#32)
                      else
                        (32#32, 384#32, 5#32)
                    else
                      if r.val < 584 then
                        (32#32, 416#32, 5#32)
                      else
                        (32#32, 448#32, 5#32)
                  else
                    if r.val < 587 then
                      if r.val < 586 then
                        (32#32, 480#32, 5#32)
                      else
                        (32#32, 384#32, 6#32)
                    else
                      if r.val < 588 then
                        (32#32, 416#32, 6#32)
                      else
                        (32#32, 448#32, 6#32)
            else
              if r.val < 604 then
                if r.val < 596 then
                  if r.val < 592 then
                    if r.val < 590 then
                      (32#32, 480#32, 6#32)
                    else
                      if r.val < 591 then
                        (32#32, 384#32, 7#32)
                      else
                        (32#32, 416#32, 7#32)
                  else
                    if r.val < 594 then
                      if r.val < 593 then
                        (32#32, 448#32, 7#32)
                      else
                        (32#32, 480#32, 7#32)
                    else
                      if r.val < 595 then
                        (32#32, 384#32, 8#32)
                      else
                        (32#32, 416#32, 8#32)
                else
                  if r.val < 600 then
                    if r.val < 598 then
                      if r.val < 597 then
                        (32#32, 448#32, 8#32)
                      else
                        (32#32, 480#32, 8#32)
                    else
                      if r.val < 599 then
                        (32#32, 384#32, 9#32)
                      else
                        (32#32, 416#32, 9#32)
                  else
                    if r.val < 602 then
                      if r.val < 601 then
                        (32#32, 448#32, 9#32)
                      else
                        (32#32, 480#32, 9#32)
                    else
                      if r.val < 603 then
                        (32#32, 384#32, 10#32)
                      else
                        (32#32, 416#32, 10#32)
              else
                if r.val < 612 then
                  if r.val < 608 then
                    if r.val < 606 then
                      if r.val < 605 then
                        (32#32, 448#32, 10#32)
                      else
                        (32#32, 480#32, 10#32)
                    else
                      if r.val < 607 then
                        (32#32, 384#32, 11#32)
                      else
                        (32#32, 416#32, 11#32)
                  else
                    if r.val < 610 then
                      if r.val < 609 then
                        (32#32, 448#32, 11#32)
                      else
                        (32#32, 480#32, 11#32)
                    else
                      if r.val < 611 then
                        (32#32, 416#32, 12#32)
                      else
                        (32#32, 448#32, 12#32)
                else
                  if r.val < 616 then
                    if r.val < 614 then
                      if r.val < 613 then
                        (32#32, 448#32, 13#32)
                      else
                        (32#32, 480#32, 12#32)
                    else
                      if r.val < 615 then
                        (32#32, 480#32, 13#32)
                      else
                        (32#32, 480#32, 14#32)
                  else
                    if r.val < 618 then
                      if r.val < 617 then
                        (32#32, 512#32, 0#32)
                      else
                        (32#32, 544#32, 0#32)
                    else
                      if r.val < 619 then
                        (32#32, 576#32, 0#32)
                      else
                        (32#32, 608#32, 0#32)
        else
          if r.val < 682 then
            if r.val < 651 then
              if r.val < 635 then
                if r.val < 627 then
                  if r.val < 623 then
                    if r.val < 621 then
                      (32#32, 512#32, 1#32)
                    else
                      if r.val < 622 then
                        (32#32, 544#32, 1#32)
                      else
                        (32#32, 576#32, 1#32)
                  else
                    if r.val < 625 then
                      if r.val < 624 then
                        (32#32, 608#32, 1#32)
                      else
                        (32#32, 512#32, 2#32)
                    else
                      if r.val < 626 then
                        (32#32, 544#32, 2#32)
                      else
                        (32#32, 576#32, 2#32)
                else
                  if r.val < 631 then
                    if r.val < 629 then
                      if r.val < 628 then
                        (32#32, 608#32, 2#32)
                      else
                        (32#32, 512#32, 3#32)
                    else
                      if r.val < 630 then
                        (32#32, 544#32, 3#32)
                      else
                        (32#32, 576#32, 3#32)
                  else
                    if r.val < 633 then
                      if r.val < 632 then
                        (32#32, 608#32, 3#32)
                      else
                        (32#32, 512#32, 4#32)
                    else
                      if r.val < 634 then
                        (32#32, 544#32, 4#32)
                      else
                        (32#32, 576#32, 4#32)
              else
                if r.val < 643 then
                  if r.val < 639 then
                    if r.val < 637 then
                      if r.val < 636 then
                        (32#32, 608#32, 4#32)
                      else
                        (32#32, 512#32, 5#32)
                    else
                      if r.val < 638 then
                        (32#32, 544#32, 5#32)
                      else
                        (32#32, 576#32, 5#32)
                  else
                    if r.val < 641 then
                      if r.val < 640 then
                        (32#32, 608#32, 5#32)
                      else
                        (32#32, 512#32, 6#32)
                    else
                      if r.val < 642 then
                        (32#32, 544#32, 6#32)
                      else
                        (32#32, 576#32, 6#32)
                else
                  if r.val < 647 then
                    if r.val < 645 then
                      if r.val < 644 then
                        (32#32, 608#32, 6#32)
                      else
                        (32#32, 512#32, 7#32)
                    else
                      if r.val < 646 then
                        (32#32, 544#32, 7#32)
                      else
                        (32#32, 576#32, 7#32)
                  else
                    if r.val < 649 then
                      if r.val < 648 then
                        (32#32, 608#32, 7#32)
                      else
                        (32#32, 512#32, 8#32)
                    else
                      if r.val < 650 then
                        (32#32, 544#32, 8#32)
                      else
                        (32#32, 576#32, 8#32)
            else
              if r.val < 666 then
                if r.val < 658 then
                  if r.val < 654 then
                    if r.val < 652 then
                      (32#32, 608#32, 8#32)
                    else
                      if r.val < 653 then
                        (32#32, 512#32, 9#32)
                      else
                        (32#32, 544#32, 9#32)
                  else
                    if r.val < 656 then
                      if r.val < 655 then
                        (32#32, 576#32, 9#32)
                      else
                        (32#32, 608#32, 9#32)
                    else
                      if r.val < 657 then
                        (32#32, 512#32, 10#32)
                      else
                        (32#32, 544#32, 10#32)
                else
                  if r.val < 662 then
                    if r.val < 660 then
                      if r.val < 659 then
                        (32#32, 576#32, 10#32)
                      else
                        (32#32, 608#32, 10#32)
                    else
                      if r.val < 661 then
                        (32#32, 512#32, 11#32)
                      else
                        (32#32, 544#32, 11#32)
                  else
                    if r.val < 664 then
                      if r.val < 663 then
                        (32#32, 576#32, 11#32)
                      else
                        (32#32, 608#32, 11#32)
                    else
                      if r.val < 665 then
                        (32#32, 512#32, 12#32)
                      else
                        (32#32, 544#32, 12#32)
              else
                if r.val < 674 then
                  if r.val < 670 then
                    if r.val < 668 then
                      if r.val < 667 then
                        (32#32, 576#32, 12#32)
                      else
                        (32#32, 608#32, 12#32)
                    else
                      if r.val < 669 then
                        (32#32, 512#32, 13#32)
                      else
                        (32#32, 544#32, 13#32)
                  else
                    if r.val < 672 then
                      if r.val < 671 then
                        (32#32, 576#32, 13#32)
                      else
                        (32#32, 608#32, 13#32)
                    else
                      if r.val < 673 then
                        (32#32, 512#32, 14#32)
                      else
                        (32#32, 544#32, 14#32)
                else
                  if r.val < 678 then
                    if r.val < 676 then
                      if r.val < 675 then
                        (32#32, 576#32, 14#32)
                      else
                        (32#32, 608#32, 14#32)
                    else
                      if r.val < 677 then
                        (32#32, 512#32, 15#32)
                      else
                        (32#32, 544#32, 15#32)
                  else
                    if r.val < 680 then
                      if r.val < 679 then
                        (32#32, 576#32, 15#32)
                      else
                        (32#32, 608#32, 15#32)
                    else
                      if r.val < 681 then
                        (32#32, 544#32, 16#32)
                      else
                        (32#32, 576#32, 16#32)
          else
            if r.val < 713 then
              if r.val < 697 then
                if r.val < 689 then
                  if r.val < 685 then
                    if r.val < 683 then
                      (32#32, 576#32, 17#32)
                    else
                      if r.val < 684 then
                        (32#32, 608#32, 16#32)
                      else
                        (32#32, 608#32, 17#32)
                  else
                    if r.val < 687 then
                      if r.val < 686 then
                        (32#32, 608#32, 18#32)
                      else
                        (32#32, 640#32, 0#32)
                    else
                      if r.val < 688 then
                        (32#32, 672#32, 0#32)
                      else
                        (32#32, 704#32, 0#32)
                else
                  if r.val < 693 then
                    if r.val < 691 then
                      if r.val < 690 then
                        (32#32, 736#32, 0#32)
                      else
                        (32#32, 640#32, 1#32)
                    else
                      if r.val < 692 then
                        (32#32, 672#32, 1#32)
                      else
                        (32#32, 704#32, 1#32)
                  else
                    if r.val < 695 then
                      if r.val < 694 then
                        (32#32, 736#32, 1#32)
                      else
                        (32#32, 640#32, 2#32)
                    else
                      if r.val < 696 then
                        (32#32, 672#32, 2#32)
                      else
                        (32#32, 704#32, 2#32)
              else
                if r.val < 705 then
                  if r.val < 701 then
                    if r.val < 699 then
                      if r.val < 698 then
                        (32#32, 736#32, 2#32)
                      else
                        (32#32, 640#32, 3#32)
                    else
                      if r.val < 700 then
                        (32#32, 672#32, 3#32)
                      else
                        (32#32, 704#32, 3#32)
                  else
                    if r.val < 703 then
                      if r.val < 702 then
                        (32#32, 736#32, 3#32)
                      else
                        (32#32, 640#32, 4#32)
                    else
                      if r.val < 704 then
                        (32#32, 672#32, 4#32)
                      else
                        (32#32, 704#32, 4#32)
                else
                  if r.val < 709 then
                    if r.val < 707 then
                      if r.val < 706 then
                        (32#32, 736#32, 4#32)
                      else
                        (32#32, 640#32, 5#32)
                    else
                      if r.val < 708 then
                        (32#32, 672#32, 5#32)
                      else
                        (32#32, 704#32, 5#32)
                  else
                    if r.val < 711 then
                      if r.val < 710 then
                        (32#32, 736#32, 5#32)
                      else
                        (32#32, 640#32, 6#32)
                    else
                      if r.val < 712 then
                        (32#32, 672#32, 6#32)
                      else
                        (32#32, 704#32, 6#32)
            else
              if r.val < 728 then
                if r.val < 720 then
                  if r.val < 716 then
                    if r.val < 714 then
                      (32#32, 736#32, 6#32)
                    else
                      if r.val < 715 then
                        (32#32, 640#32, 7#32)
                      else
                        (32#32, 672#32, 7#32)
                  else
                    if r.val < 718 then
                      if r.val < 717 then
                        (32#32, 704#32, 7#32)
                      else
                        (32#32, 736#32, 7#32)
                    else
                      if r.val < 719 then
                        (32#32, 640#32, 8#32)
                      else
                        (32#32, 672#32, 8#32)
                else
                  if r.val < 724 then
                    if r.val < 722 then
                      if r.val < 721 then
                        (32#32, 704#32, 8#32)
                      else
                        (32#32, 736#32, 8#32)
                    else
                      if r.val < 723 then
                        (32#32, 640#32, 9#32)
                      else
                        (32#32, 672#32, 9#32)
                  else
                    if r.val < 726 then
                      if r.val < 725 then
                        (32#32, 704#32, 9#32)
                      else
                        (32#32, 736#32, 9#32)
                    else
                      if r.val < 727 then
                        (32#32, 640#32, 10#32)
                      else
                        (32#32, 672#32, 10#32)
              else
                if r.val < 736 then
                  if r.val < 732 then
                    if r.val < 730 then
                      if r.val < 729 then
                        (32#32, 704#32, 10#32)
                      else
                        (32#32, 736#32, 10#32)
                    else
                      if r.val < 731 then
                        (32#32, 640#32, 11#32)
                      else
                        (32#32, 672#32, 11#32)
                  else
                    if r.val < 734 then
                      if r.val < 733 then
                        (32#32, 704#32, 11#32)
                      else
                        (32#32, 736#32, 11#32)
                    else
                      if r.val < 735 then
                        (32#32, 640#32, 12#32)
                      else
                        (32#32, 672#32, 12#32)
                else
                  if r.val < 740 then
                    if r.val < 738 then
                      if r.val < 737 then
                        (32#32, 704#32, 12#32)
                      else
                        (32#32, 736#32, 12#32)
                    else
                      if r.val < 739 then
                        (32#32, 640#32, 13#32)
                      else
                        (32#32, 672#32, 13#32)
                  else
                    if r.val < 742 then
                      if r.val < 741 then
                        (32#32, 704#32, 13#32)
                      else
                        (32#32, 736#32, 13#32)
                    else
                      if r.val < 743 then
                        (32#32, 640#32, 14#32)
                      else
                        (32#32, 672#32, 14#32)
      else
        if r.val < 868 then
          if r.val < 806 then
            if r.val < 775 then
              if r.val < 759 then
                if r.val < 751 then
                  if r.val < 747 then
                    if r.val < 745 then
                      (32#32, 704#32, 14#32)
                    else
                      if r.val < 746 then
                        (32#32, 736#32, 14#32)
                      else
                        (32#32, 640#32, 15#32)
                  else
                    if r.val < 749 then
                      if r.val < 748 then
                        (32#32, 672#32, 15#32)
                      else
                        (32#32, 704#32, 15#32)
                    else
                      if r.val < 750 then
                        (32#32, 736#32, 15#32)
                      else
                        (32#32, 640#32, 16#32)
                else
                  if r.val < 755 then
                    if r.val < 753 then
                      if r.val < 752 then
                        (32#32, 672#32, 16#32)
                      else
                        (32#32, 704#32, 16#32)
                    else
                      if r.val < 754 then
                        (32#32, 736#32, 16#32)
                      else
                        (32#32, 640#32, 17#32)
                  else
                    if r.val < 757 then
                      if r.val < 756 then
                        (32#32, 672#32, 17#32)
                      else
                        (32#32, 704#32, 17#32)
                    else
                      if r.val < 758 then
                        (32#32, 736#32, 17#32)
                      else
                        (32#32, 640#32, 18#32)
              else
                if r.val < 767 then
                  if r.val < 763 then
                    if r.val < 761 then
                      if r.val < 760 then
                        (32#32, 672#32, 18#32)
                      else
                        (32#32, 704#32, 18#32)
                    else
                      if r.val < 762 then
                        (32#32, 736#32, 18#32)
                      else
                        (32#32, 640#32, 19#32)
                  else
                    if r.val < 765 then
                      if r.val < 764 then
                        (32#32, 672#32, 19#32)
                      else
                        (32#32, 704#32, 19#32)
                    else
                      if r.val < 766 then
                        (32#32, 736#32, 19#32)
                      else
                        (32#32, 672#32, 20#32)
                else
                  if r.val < 771 then
                    if r.val < 769 then
                      if r.val < 768 then
                        (32#32, 704#32, 20#32)
                      else
                        (32#32, 704#32, 21#32)
                    else
                      if r.val < 770 then
                        (32#32, 736#32, 20#32)
                      else
                        (32#32, 736#32, 21#32)
                  else
                    if r.val < 773 then
                      if r.val < 772 then
                        (32#32, 736#32, 22#32)
                      else
                        (32#32, 768#32, 0#32)
                    else
                      if r.val < 774 then
                        (32#32, 800#32, 0#32)
                      else
                        (32#32, 832#32, 0#32)
            else
              if r.val < 790 then
                if r.val < 782 then
                  if r.val < 778 then
                    if r.val < 776 then
                      (32#32, 864#32, 0#32)
                    else
                      if r.val < 777 then
                        (32#32, 768#32, 1#32)
                      else
                        (32#32, 800#32, 1#32)
                  else
                    if r.val < 780 then
                      if r.val < 779 then
                        (32#32, 832#32, 1#32)
                      else
                        (32#32, 864#32, 1#32)
                    else
                      if r.val < 781 then
                        (32#32, 768#32, 2#32)
                      else
                        (32#32, 800#32, 2#32)
                else
                  if r.val < 786 then
                    if r.val < 784 then
                      if r.val < 783 then
                        (32#32, 832#32, 2#32)
                      else
                        (32#32, 864#32, 2#32)
                    else
                      if r.val < 785 then
                        (32#32, 768#32, 3#32)
                      else
                        (32#32, 800#32, 3#32)
                  else
                    if r.val < 788 then
                      if r.val < 787 then
                        (32#32, 832#32, 3#32)
                      else
                        (32#32, 864#32, 3#32)
                    else
                      if r.val < 789 then
                        (32#32, 768#32, 4#32)
                      else
                        (32#32, 800#32, 4#32)
              else
                if r.val < 798 then
                  if r.val < 794 then
                    if r.val < 792 then
                      if r.val < 791 then
                        (32#32, 832#32, 4#32)
                      else
                        (32#32, 864#32, 4#32)
                    else
                      if r.val < 793 then
                        (32#32, 768#32, 5#32)
                      else
                        (32#32, 800#32, 5#32)
                  else
                    if r.val < 796 then
                      if r.val < 795 then
                        (32#32, 832#32, 5#32)
                      else
                        (32#32, 864#32, 5#32)
                    else
                      if r.val < 797 then
                        (32#32, 768#32, 6#32)
                      else
                        (32#32, 800#32, 6#32)
                else
                  if r.val < 802 then
                    if r.val < 800 then
                      if r.val < 799 then
                        (32#32, 832#32, 6#32)
                      else
                        (32#32, 864#32, 6#32)
                    else
                      if r.val < 801 then
                        (32#32, 768#32, 7#32)
                      else
                        (32#32, 800#32, 7#32)
                  else
                    if r.val < 804 then
                      if r.val < 803 then
                        (32#32, 832#32, 7#32)
                      else
                        (32#32, 864#32, 7#32)
                    else
                      if r.val < 805 then
                        (32#32, 768#32, 8#32)
                      else
                        (32#32, 800#32, 8#32)
          else
            if r.val < 837 then
              if r.val < 821 then
                if r.val < 813 then
                  if r.val < 809 then
                    if r.val < 807 then
                      (32#32, 832#32, 8#32)
                    else
                      if r.val < 808 then
                        (32#32, 864#32, 8#32)
                      else
                        (32#32, 768#32, 9#32)
                  else
                    if r.val < 811 then
                      if r.val < 810 then
                        (32#32, 800#32, 9#32)
                      else
                        (32#32, 832#32, 9#32)
                    else
                      if r.val < 812 then
                        (32#32, 864#32, 9#32)
                      else
                        (32#32, 768#32, 10#32)
                else
                  if r.val < 817 then
                    if r.val < 815 then
                      if r.val < 814 then
                        (32#32, 800#32, 10#32)
                      else
                        (32#32, 832#32, 10#32)
                    else
                      if r.val < 816 then
                        (32#32, 864#32, 10#32)
                      else
                        (32#32, 768#32, 11#32)
                  else
                    if r.val < 819 then
                      if r.val < 818 then
                        (32#32, 800#32, 11#32)
                      else
                        (32#32, 832#32, 11#32)
                    else
                      if r.val < 820 then
                        (32#32, 864#32, 11#32)
                      else
                        (32#32, 768#32, 12#32)
              else
                if r.val < 829 then
                  if r.val < 825 then
                    if r.val < 823 then
                      if r.val < 822 then
                        (32#32, 800#32, 12#32)
                      else
                        (32#32, 832#32, 12#32)
                    else
                      if r.val < 824 then
                        (32#32, 864#32, 12#32)
                      else
                        (32#32, 768#32, 13#32)
                  else
                    if r.val < 827 then
                      if r.val < 826 then
                        (32#32, 800#32, 13#32)
                      else
                        (32#32, 832#32, 13#32)
                    else
                      if r.val < 828 then
                        (32#32, 864#32, 13#32)
                      else
                        (32#32, 768#32, 14#32)
                else
                  if r.val < 833 then
                    if r.val < 831 then
                      if r.val < 830 then
                        (32#32, 800#32, 14#32)
                      else
                        (32#32, 832#32, 14#32)
                    else
                      if r.val < 832 then
                        (32#32, 864#32, 14#32)
                      else
                        (32#32, 768#32, 15#32)
                  else
                    if r.val < 835 then
                      if r.val < 834 then
                        (32#32, 800#32, 15#32)
                      else
                        (32#32, 832#32, 15#32)
                    else
                      if r.val < 836 then
                        (32#32, 864#32, 15#32)
                      else
                        (32#32, 768#32, 16#32)
            else
              if r.val < 852 then
                if r.val < 844 then
                  if r.val < 840 then
                    if r.val < 838 then
                      (32#32, 800#32, 16#32)
                    else
                      if r.val < 839 then
                        (32#32, 832#32, 16#32)
                      else
                        (32#32, 864#32, 16#32)
                  else
                    if r.val < 842 then
                      if r.val < 841 then
                        (32#32, 768#32, 17#32)
                      else
                        (32#32, 800#32, 17#32)
                    else
                      if r.val < 843 then
                        (32#32, 832#32, 17#32)
                      else
                        (32#32, 864#32, 17#32)
                else
                  if r.val < 848 then
                    if r.val < 846 then
                      if r.val < 845 then
                        (32#32, 768#32, 18#32)
                      else
                        (32#32, 800#32, 18#32)
                    else
                      if r.val < 847 then
                        (32#32, 832#32, 18#32)
                      else
                        (32#32, 864#32, 18#32)
                  else
                    if r.val < 850 then
                      if r.val < 849 then
                        (32#32, 768#32, 19#32)
                      else
                        (32#32, 800#32, 19#32)
                    else
                      if r.val < 851 then
                        (32#32, 832#32, 19#32)
                      else
                        (32#32, 864#32, 19#32)
              else
                if r.val < 860 then
                  if r.val < 856 then
                    if r.val < 854 then
                      if r.val < 853 then
                        (32#32, 768#32, 20#32)
                      else
                        (32#32, 800#32, 20#32)
                    else
                      if r.val < 855 then
                        (32#32, 832#32, 20#32)
                      else
                        (32#32, 864#32, 20#32)
                  else
                    if r.val < 858 then
                      if r.val < 857 then
                        (32#32, 768#32, 21#32)
                      else
                        (32#32, 800#32, 21#32)
                    else
                      if r.val < 859 then
                        (32#32, 832#32, 21#32)
                      else
                        (32#32, 864#32, 21#32)
                else
                  if r.val < 864 then
                    if r.val < 862 then
                      if r.val < 861 then
                        (32#32, 768#32, 22#32)
                      else
                        (32#32, 800#32, 22#32)
                    else
                      if r.val < 863 then
                        (32#32, 832#32, 22#32)
                      else
                        (32#32, 864#32, 22#32)
                  else
                    if r.val < 866 then
                      if r.val < 865 then
                        (32#32, 768#32, 23#32)
                      else
                        (32#32, 800#32, 23#32)
                    else
                      if r.val < 867 then
                        (32#32, 832#32, 23#32)
                      else
                        (32#32, 864#32, 23#32)
        else
          if r.val < 930 then
            if r.val < 899 then
              if r.val < 883 then
                if r.val < 875 then
                  if r.val < 871 then
                    if r.val < 869 then
                      (32#32, 800#32, 24#32)
                    else
                      if r.val < 870 then
                        (32#32, 832#32, 24#32)
                      else
                        (32#32, 832#32, 25#32)
                  else
                    if r.val < 873 then
                      if r.val < 872 then
                        (32#32, 864#32, 24#32)
                      else
                        (32#32, 864#32, 25#32)
                    else
                      if r.val < 874 then
                        (32#32, 864#32, 26#32)
                      else
                        (32#32, 896#32, 0#32)
                else
                  if r.val < 879 then
                    if r.val < 877 then
                      if r.val < 876 then
                        (32#32, 928#32, 0#32)
                      else
                        (32#32, 960#32, 0#32)
                    else
                      if r.val < 878 then
                        (32#32, 992#32, 0#32)
                      else
                        (32#32, 896#32, 1#32)
                  else
                    if r.val < 881 then
                      if r.val < 880 then
                        (32#32, 928#32, 1#32)
                      else
                        (32#32, 960#32, 1#32)
                    else
                      if r.val < 882 then
                        (32#32, 992#32, 1#32)
                      else
                        (32#32, 896#32, 2#32)
              else
                if r.val < 891 then
                  if r.val < 887 then
                    if r.val < 885 then
                      if r.val < 884 then
                        (32#32, 928#32, 2#32)
                      else
                        (32#32, 960#32, 2#32)
                    else
                      if r.val < 886 then
                        (32#32, 992#32, 2#32)
                      else
                        (32#32, 896#32, 3#32)
                  else
                    if r.val < 889 then
                      if r.val < 888 then
                        (32#32, 928#32, 3#32)
                      else
                        (32#32, 960#32, 3#32)
                    else
                      if r.val < 890 then
                        (32#32, 992#32, 3#32)
                      else
                        (32#32, 896#32, 4#32)
                else
                  if r.val < 895 then
                    if r.val < 893 then
                      if r.val < 892 then
                        (32#32, 928#32, 4#32)
                      else
                        (32#32, 960#32, 4#32)
                    else
                      if r.val < 894 then
                        (32#32, 992#32, 4#32)
                      else
                        (32#32, 896#32, 5#32)
                  else
                    if r.val < 897 then
                      if r.val < 896 then
                        (32#32, 928#32, 5#32)
                      else
                        (32#32, 960#32, 5#32)
                    else
                      if r.val < 898 then
                        (32#32, 992#32, 5#32)
                      else
                        (32#32, 896#32, 6#32)
            else
              if r.val < 914 then
                if r.val < 906 then
                  if r.val < 902 then
                    if r.val < 900 then
                      (32#32, 928#32, 6#32)
                    else
                      if r.val < 901 then
                        (32#32, 960#32, 6#32)
                      else
                        (32#32, 992#32, 6#32)
                  else
                    if r.val < 904 then
                      if r.val < 903 then
                        (32#32, 896#32, 7#32)
                      else
                        (32#32, 928#32, 7#32)
                    else
                      if r.val < 905 then
                        (32#32, 960#32, 7#32)
                      else
                        (32#32, 992#32, 7#32)
                else
                  if r.val < 910 then
                    if r.val < 908 then
                      if r.val < 907 then
                        (32#32, 896#32, 8#32)
                      else
                        (32#32, 928#32, 8#32)
                    else
                      if r.val < 909 then
                        (32#32, 960#32, 8#32)
                      else
                        (32#32, 992#32, 8#32)
                  else
                    if r.val < 912 then
                      if r.val < 911 then
                        (32#32, 896#32, 9#32)
                      else
                        (32#32, 928#32, 9#32)
                    else
                      if r.val < 913 then
                        (32#32, 960#32, 9#32)
                      else
                        (32#32, 992#32, 9#32)
              else
                if r.val < 922 then
                  if r.val < 918 then
                    if r.val < 916 then
                      if r.val < 915 then
                        (32#32, 896#32, 10#32)
                      else
                        (32#32, 928#32, 10#32)
                    else
                      if r.val < 917 then
                        (32#32, 960#32, 10#32)
                      else
                        (32#32, 992#32, 10#32)
                  else
                    if r.val < 920 then
                      if r.val < 919 then
                        (32#32, 896#32, 11#32)
                      else
                        (32#32, 928#32, 11#32)
                    else
                      if r.val < 921 then
                        (32#32, 960#32, 11#32)
                      else
                        (32#32, 992#32, 11#32)
                else
                  if r.val < 926 then
                    if r.val < 924 then
                      if r.val < 923 then
                        (32#32, 896#32, 12#32)
                      else
                        (32#32, 928#32, 12#32)
                    else
                      if r.val < 925 then
                        (32#32, 960#32, 12#32)
                      else
                        (32#32, 992#32, 12#32)
                  else
                    if r.val < 928 then
                      if r.val < 927 then
                        (32#32, 896#32, 13#32)
                      else
                        (32#32, 928#32, 13#32)
                    else
                      if r.val < 929 then
                        (32#32, 960#32, 13#32)
                      else
                        (32#32, 992#32, 13#32)
          else
            if r.val < 961 then
              if r.val < 945 then
                if r.val < 937 then
                  if r.val < 933 then
                    if r.val < 931 then
                      (32#32, 896#32, 14#32)
                    else
                      if r.val < 932 then
                        (32#32, 928#32, 14#32)
                      else
                        (32#32, 960#32, 14#32)
                  else
                    if r.val < 935 then
                      if r.val < 934 then
                        (32#32, 992#32, 14#32)
                      else
                        (32#32, 896#32, 15#32)
                    else
                      if r.val < 936 then
                        (32#32, 928#32, 15#32)
                      else
                        (32#32, 960#32, 15#32)
                else
                  if r.val < 941 then
                    if r.val < 939 then
                      if r.val < 938 then
                        (32#32, 992#32, 15#32)
                      else
                        (32#32, 896#32, 16#32)
                    else
                      if r.val < 940 then
                        (32#32, 928#32, 16#32)
                      else
                        (32#32, 960#32, 16#32)
                  else
                    if r.val < 943 then
                      if r.val < 942 then
                        (32#32, 992#32, 16#32)
                      else
                        (32#32, 896#32, 17#32)
                    else
                      if r.val < 944 then
                        (32#32, 928#32, 17#32)
                      else
                        (32#32, 960#32, 17#32)
              else
                if r.val < 953 then
                  if r.val < 949 then
                    if r.val < 947 then
                      if r.val < 946 then
                        (32#32, 992#32, 17#32)
                      else
                        (32#32, 896#32, 18#32)
                    else
                      if r.val < 948 then
                        (32#32, 928#32, 18#32)
                      else
                        (32#32, 960#32, 18#32)
                  else
                    if r.val < 951 then
                      if r.val < 950 then
                        (32#32, 992#32, 18#32)
                      else
                        (32#32, 896#32, 19#32)
                    else
                      if r.val < 952 then
                        (32#32, 928#32, 19#32)
                      else
                        (32#32, 960#32, 19#32)
                else
                  if r.val < 957 then
                    if r.val < 955 then
                      if r.val < 954 then
                        (32#32, 992#32, 19#32)
                      else
                        (32#32, 896#32, 20#32)
                    else
                      if r.val < 956 then
                        (32#32, 928#32, 20#32)
                      else
                        (32#32, 960#32, 20#32)
                  else
                    if r.val < 959 then
                      if r.val < 958 then
                        (32#32, 992#32, 20#32)
                      else
                        (32#32, 896#32, 21#32)
                    else
                      if r.val < 960 then
                        (32#32, 928#32, 21#32)
                      else
                        (32#32, 960#32, 21#32)
            else
              if r.val < 976 then
                if r.val < 968 then
                  if r.val < 964 then
                    if r.val < 962 then
                      (32#32, 992#32, 21#32)
                    else
                      if r.val < 963 then
                        (32#32, 896#32, 22#32)
                      else
                        (32#32, 928#32, 22#32)
                  else
                    if r.val < 966 then
                      if r.val < 965 then
                        (32#32, 960#32, 22#32)
                      else
                        (32#32, 992#32, 22#32)
                    else
                      if r.val < 967 then
                        (32#32, 896#32, 23#32)
                      else
                        (32#32, 928#32, 23#32)
                else
                  if r.val < 972 then
                    if r.val < 970 then
                      if r.val < 969 then
                        (32#32, 960#32, 23#32)
                      else
                        (32#32, 992#32, 23#32)
                    else
                      if r.val < 971 then
                        (32#32, 896#32, 24#32)
                      else
                        (32#32, 928#32, 24#32)
                  else
                    if r.val < 974 then
                      if r.val < 973 then
                        (32#32, 960#32, 24#32)
                      else
                        (32#32, 992#32, 24#32)
                    else
                      if r.val < 975 then
                        (32#32, 896#32, 25#32)
                      else
                        (32#32, 928#32, 25#32)
              else
                if r.val < 984 then
                  if r.val < 980 then
                    if r.val < 978 then
                      if r.val < 977 then
                        (32#32, 960#32, 25#32)
                      else
                        (32#32, 992#32, 25#32)
                    else
                      if r.val < 979 then
                        (32#32, 896#32, 26#32)
                      else
                        (32#32, 928#32, 26#32)
                  else
                    if r.val < 982 then
                      if r.val < 981 then
                        (32#32, 960#32, 26#32)
                      else
                        (32#32, 992#32, 26#32)
                    else
                      if r.val < 983 then
                        (32#32, 896#32, 27#32)
                      else
                        (32#32, 928#32, 27#32)
                else
                  if r.val < 988 then
                    if r.val < 986 then
                      if r.val < 985 then
                        (32#32, 960#32, 27#32)
                      else
                        (32#32, 992#32, 27#32)
                    else
                      if r.val < 987 then
                        (32#32, 928#32, 28#32)
                      else
                        (32#32, 960#32, 28#32)
                  else
                    if r.val < 990 then
                      if r.val < 989 then
                        (32#32, 960#32, 29#32)
                      else
                        (32#32, 992#32, 28#32)
                    else
                      if r.val < 991 then
                        (32#32, 992#32, 29#32)
                      else
                        (32#32, 992#32, 30#32)
  else
    if r.val < 1488 then
      if r.val < 1240 then
        if r.val < 1116 then
          if r.val < 1054 then
            if r.val < 1023 then
              if r.val < 1007 then
                if r.val < 999 then
                  if r.val < 995 then
                    if r.val < 993 then
                      (64#32, 32#32, 0#32)
                    else
                      if r.val < 994 then
                        (64#32, 64#32, 0#32)
                      else
                        (64#32, 64#32, 1#32)
                  else
                    if r.val < 997 then
                      if r.val < 996 then
                        (64#32, 96#32, 0#32)
                      else
                        (64#32, 96#32, 1#32)
                    else
                      if r.val < 998 then
                        (64#32, 96#32, 2#32)
                      else
                        (64#32, 128#32, 0#32)
                else
                  if r.val < 1003 then
                    if r.val < 1001 then
                      if r.val < 1000 then
                        (64#32, 160#32, 0#32)
                      else
                        (64#32, 192#32, 0#32)
                    else
                      if r.val < 1002 then
                        (64#32, 224#32, 0#32)
                      else
                        (64#32, 128#32, 1#32)
                  else
                    if r.val < 1005 then
                      if r.val < 1004 then
                        (64#32, 160#32, 1#32)
                      else
                        (64#32, 192#32, 1#32)
                    else
                      if r.val < 1006 then
                        (64#32, 224#32, 1#32)
                      else
                        (64#32, 128#32, 2#32)
              else
                if r.val < 1015 then
                  if r.val < 1011 then
                    if r.val < 1009 then
                      if r.val < 1008 then
                        (64#32, 160#32, 2#32)
                      else
                        (64#32, 192#32, 2#32)
                    else
                      if r.val < 1010 then
                        (64#32, 224#32, 2#32)
                      else
                        (64#32, 128#32, 3#32)
                  else
                    if r.val < 1013 then
                      if r.val < 1012 then
                        (64#32, 160#32, 3#32)
                      else
                        (64#32, 192#32, 3#32)
                    else
                      if r.val < 1014 then
                        (64#32, 224#32, 3#32)
                      else
                        (64#32, 160#32, 4#32)
                else
                  if r.val < 1019 then
                    if r.val < 1017 then
                      if r.val < 1016 then
                        (64#32, 192#32, 4#32)
                      else
                        (64#32, 192#32, 5#32)
                    else
                      if r.val < 1018 then
                        (64#32, 224#32, 4#32)
                      else
                        (64#32, 224#32, 5#32)
                  else
                    if r.val < 1021 then
                      if r.val < 1020 then
                        (64#32, 224#32, 6#32)
                      else
                        (64#32, 256#32, 0#32)
                    else
                      if r.val < 1022 then
                        (64#32, 288#32, 0#32)
                      else
                        (64#32, 320#32, 0#32)
            else
              if r.val < 1038 then
                if r.val < 1030 then
                  if r.val < 1026 then
                    if r.val < 1024 then
                      (64#32, 352#32, 0#32)
                    else
                      if r.val < 1025 then
                        (64#32, 256#32, 1#32)
                      else
                        (64#32, 288#32, 1#32)
                  else
                    if r.val < 1028 then
                      if r.val < 1027 then
                        (64#32, 320#32, 1#32)
                      else
                        (64#32, 352#32, 1#32)
                    else
                      if r.val < 1029 then
                        (64#32, 256#32, 2#32)
                      else
                        (64#32, 288#32, 2#32)
                else
                  if r.val < 1034 then
                    if r.val < 1032 then
                      if r.val < 1031 then
                        (64#32, 320#32, 2#32)
                      else
                        (64#32, 352#32, 2#32)
                    else
                      if r.val < 1033 then
                        (64#32, 256#32, 3#32)
                      else
                        (64#32, 288#32, 3#32)
                  else
                    if r.val < 1036 then
                      if r.val < 1035 then
                        (64#32, 320#32, 3#32)
                      else
                        (64#32, 352#32, 3#32)
                    else
                      if r.val < 1037 then
                        (64#32, 256#32, 4#32)
                      else
                        (64#32, 288#32, 4#32)
              else
                if r.val < 1046 then
                  if r.val < 1042 then
                    if r.val < 1040 then
                      if r.val < 1039 then
                        (64#32, 320#32, 4#32)
                      else
                        (64#32, 352#32, 4#32)
                    else
                      if r.val < 1041 then
                        (64#32, 256#32, 5#32)
                      else
                        (64#32, 288#32, 5#32)
                  else
                    if r.val < 1044 then
                      if r.val < 1043 then
                        (64#32, 320#32, 5#32)
                      else
                        (64#32, 352#32, 5#32)
                    else
                      if r.val < 1045 then
                        (64#32, 256#32, 6#32)
                      else
                        (64#32, 288#32, 6#32)
                else
                  if r.val < 1050 then
                    if r.val < 1048 then
                      if r.val < 1047 then
                        (64#32, 320#32, 6#32)
                      else
                        (64#32, 352#32, 6#32)
                    else
                      if r.val < 1049 then
                        (64#32, 256#32, 7#32)
                      else
                        (64#32, 288#32, 7#32)
                  else
                    if r.val < 1052 then
                      if r.val < 1051 then
                        (64#32, 320#32, 7#32)
                      else
                        (64#32, 352#32, 7#32)
                    else
                      if r.val < 1053 then
                        (64#32, 288#32, 8#32)
                      else
                        (64#32, 320#32, 8#32)
          else
            if r.val < 1085 then
              if r.val < 1069 then
                if r.val < 1061 then
                  if r.val < 1057 then
                    if r.val < 1055 then
                      (64#32, 320#32, 9#32)
                    else
                      if r.val < 1056 then
                        (64#32, 352#32, 8#32)
                      else
                        (64#32, 352#32, 9#32)
                  else
                    if r.val < 1059 then
                      if r.val < 1058 then
                        (64#32, 352#32, 10#32)
                      else
                        (64#32, 384#32, 0#32)
                    else
                      if r.val < 1060 then
                        (64#32, 416#32, 0#32)
                      else
                        (64#32, 448#32, 0#32)
                else
                  if r.val < 1065 then
                    if r.val < 1063 then
                      if r.val < 1062 then
                        (64#32, 480#32, 0#32)
                      else
                        (64#32, 384#32, 1#32)
                    else
                      if r.val < 1064 then
                        (64#32, 416#32, 1#32)
                      else
                        (64#32, 448#32, 1#32)
                  else
                    if r.val < 1067 then
                      if r.val < 1066 then
                        (64#32, 480#32, 1#32)
                      else
                        (64#32, 384#32, 2#32)
                    else
                      if r.val < 1068 then
                        (64#32, 416#32, 2#32)
                      else
                        (64#32, 448#32, 2#32)
              else
                if r.val < 1077 then
                  if r.val < 1073 then
                    if r.val < 1071 then
                      if r.val < 1070 then
                        (64#32, 480#32, 2#32)
                      else
                        (64#32, 384#32, 3#32)
                    else
                      if r.val < 1072 then
                        (64#32, 416#32, 3#32)
                      else
                        (64#32, 448#32, 3#32)
                  else
                    if r.val < 1075 then
                      if r.val < 1074 then
                        (64#32, 480#32, 3#32)
                      else
                        (64#32, 384#32, 4#32)
                    else
                      if r.val < 1076 then
                        (64#32, 416#32, 4#32)
                      else
                        (64#32, 448#32, 4#32)
                else
                  if r.val < 1081 then
                    if r.val < 1079 then
                      if r.val < 1078 then
                        (64#32, 480#32, 4#32)
                      else
                        (64#32, 384#32, 5#32)
                    else
                      if r.val < 1080 then
                        (64#32, 416#32, 5#32)
                      else
                        (64#32, 448#32, 5#32)
                  else
                    if r.val < 1083 then
                      if r.val < 1082 then
                        (64#32, 480#32, 5#32)
                      else
                        (64#32, 384#32, 6#32)
                    else
                      if r.val < 1084 then
                        (64#32, 416#32, 6#32)
                      else
                        (64#32, 448#32, 6#32)
            else
              if r.val < 1100 then
                if r.val < 1092 then
                  if r.val < 1088 then
                    if r.val < 1086 then
                      (64#32, 480#32, 6#32)
                    else
                      if r.val < 1087 then
                        (64#32, 384#32, 7#32)
                      else
                        (64#32, 416#32, 7#32)
                  else
                    if r.val < 1090 then
                      if r.val < 1089 then
                        (64#32, 448#32, 7#32)
                      else
                        (64#32, 480#32, 7#32)
                    else
                      if r.val < 1091 then
                        (64#32, 384#32, 8#32)
                      else
                        (64#32, 416#32, 8#32)
                else
                  if r.val < 1096 then
                    if r.val < 1094 then
                      if r.val < 1093 then
                        (64#32, 448#32, 8#32)
                      else
                        (64#32, 480#32, 8#32)
                    else
                      if r.val < 1095 then
                        (64#32, 384#32, 9#32)
                      else
                        (64#32, 416#32, 9#32)
                  else
                    if r.val < 1098 then
                      if r.val < 1097 then
                        (64#32, 448#32, 9#32)
                      else
                        (64#32, 480#32, 9#32)
                    else
                      if r.val < 1099 then
                        (64#32, 384#32, 10#32)
                      else
                        (64#32, 416#32, 10#32)
              else
                if r.val < 1108 then
                  if r.val < 1104 then
                    if r.val < 1102 then
                      if r.val < 1101 then
                        (64#32, 448#32, 10#32)
                      else
                        (64#32, 480#32, 10#32)
                    else
                      if r.val < 1103 then
                        (64#32, 384#32, 11#32)
                      else
                        (64#32, 416#32, 11#32)
                  else
                    if r.val < 1106 then
                      if r.val < 1105 then
                        (64#32, 448#32, 11#32)
                      else
                        (64#32, 480#32, 11#32)
                    else
                      if r.val < 1107 then
                        (64#32, 416#32, 12#32)
                      else
                        (64#32, 448#32, 12#32)
                else
                  if r.val < 1112 then
                    if r.val < 1110 then
                      if r.val < 1109 then
                        (64#32, 448#32, 13#32)
                      else
                        (64#32, 480#32, 12#32)
                    else
                      if r.val < 1111 then
                        (64#32, 480#32, 13#32)
                      else
                        (64#32, 480#32, 14#32)
                  else
                    if r.val < 1114 then
                      if r.val < 1113 then
                        (64#32, 512#32, 0#32)
                      else
                        (64#32, 544#32, 0#32)
                    else
                      if r.val < 1115 then
                        (64#32, 576#32, 0#32)
                      else
                        (64#32, 608#32, 0#32)
        else
          if r.val < 1178 then
            if r.val < 1147 then
              if r.val < 1131 then
                if r.val < 1123 then
                  if r.val < 1119 then
                    if r.val < 1117 then
                      (64#32, 512#32, 1#32)
                    else
                      if r.val < 1118 then
                        (64#32, 544#32, 1#32)
                      else
                        (64#32, 576#32, 1#32)
                  else
                    if r.val < 1121 then
                      if r.val < 1120 then
                        (64#32, 608#32, 1#32)
                      else
                        (64#32, 512#32, 2#32)
                    else
                      if r.val < 1122 then
                        (64#32, 544#32, 2#32)
                      else
                        (64#32, 576#32, 2#32)
                else
                  if r.val < 1127 then
                    if r.val < 1125 then
                      if r.val < 1124 then
                        (64#32, 608#32, 2#32)
                      else
                        (64#32, 512#32, 3#32)
                    else
                      if r.val < 1126 then
                        (64#32, 544#32, 3#32)
                      else
                        (64#32, 576#32, 3#32)
                  else
                    if r.val < 1129 then
                      if r.val < 1128 then
                        (64#32, 608#32, 3#32)
                      else
                        (64#32, 512#32, 4#32)
                    else
                      if r.val < 1130 then
                        (64#32, 544#32, 4#32)
                      else
                        (64#32, 576#32, 4#32)
              else
                if r.val < 1139 then
                  if r.val < 1135 then
                    if r.val < 1133 then
                      if r.val < 1132 then
                        (64#32, 608#32, 4#32)
                      else
                        (64#32, 512#32, 5#32)
                    else
                      if r.val < 1134 then
                        (64#32, 544#32, 5#32)
                      else
                        (64#32, 576#32, 5#32)
                  else
                    if r.val < 1137 then
                      if r.val < 1136 then
                        (64#32, 608#32, 5#32)
                      else
                        (64#32, 512#32, 6#32)
                    else
                      if r.val < 1138 then
                        (64#32, 544#32, 6#32)
                      else
                        (64#32, 576#32, 6#32)
                else
                  if r.val < 1143 then
                    if r.val < 1141 then
                      if r.val < 1140 then
                        (64#32, 608#32, 6#32)
                      else
                        (64#32, 512#32, 7#32)
                    else
                      if r.val < 1142 then
                        (64#32, 544#32, 7#32)
                      else
                        (64#32, 576#32, 7#32)
                  else
                    if r.val < 1145 then
                      if r.val < 1144 then
                        (64#32, 608#32, 7#32)
                      else
                        (64#32, 512#32, 8#32)
                    else
                      if r.val < 1146 then
                        (64#32, 544#32, 8#32)
                      else
                        (64#32, 576#32, 8#32)
            else
              if r.val < 1162 then
                if r.val < 1154 then
                  if r.val < 1150 then
                    if r.val < 1148 then
                      (64#32, 608#32, 8#32)
                    else
                      if r.val < 1149 then
                        (64#32, 512#32, 9#32)
                      else
                        (64#32, 544#32, 9#32)
                  else
                    if r.val < 1152 then
                      if r.val < 1151 then
                        (64#32, 576#32, 9#32)
                      else
                        (64#32, 608#32, 9#32)
                    else
                      if r.val < 1153 then
                        (64#32, 512#32, 10#32)
                      else
                        (64#32, 544#32, 10#32)
                else
                  if r.val < 1158 then
                    if r.val < 1156 then
                      if r.val < 1155 then
                        (64#32, 576#32, 10#32)
                      else
                        (64#32, 608#32, 10#32)
                    else
                      if r.val < 1157 then
                        (64#32, 512#32, 11#32)
                      else
                        (64#32, 544#32, 11#32)
                  else
                    if r.val < 1160 then
                      if r.val < 1159 then
                        (64#32, 576#32, 11#32)
                      else
                        (64#32, 608#32, 11#32)
                    else
                      if r.val < 1161 then
                        (64#32, 512#32, 12#32)
                      else
                        (64#32, 544#32, 12#32)
              else
                if r.val < 1170 then
                  if r.val < 1166 then
                    if r.val < 1164 then
                      if r.val < 1163 then
                        (64#32, 576#32, 12#32)
                      else
                        (64#32, 608#32, 12#32)
                    else
                      if r.val < 1165 then
                        (64#32, 512#32, 13#32)
                      else
                        (64#32, 544#32, 13#32)
                  else
                    if r.val < 1168 then
                      if r.val < 1167 then
                        (64#32, 576#32, 13#32)
                      else
                        (64#32, 608#32, 13#32)
                    else
                      if r.val < 1169 then
                        (64#32, 512#32, 14#32)
                      else
                        (64#32, 544#32, 14#32)
                else
                  if r.val < 1174 then
                    if r.val < 1172 then
                      if r.val < 1171 then
                        (64#32, 576#32, 14#32)
                      else
                        (64#32, 608#32, 14#32)
                    else
                      if r.val < 1173 then
                        (64#32, 512#32, 15#32)
                      else
                        (64#32, 544#32, 15#32)
                  else
                    if r.val < 1176 then
                      if r.val < 1175 then
                        (64#32, 576#32, 15#32)
                      else
                        (64#32, 608#32, 15#32)
                    else
                      if r.val < 1177 then
                        (64#32, 544#32, 16#32)
                      else
                        (64#32, 576#32, 16#32)
          else
            if r.val < 1209 then
              if r.val < 1193 then
                if r.val < 1185 then
                  if r.val < 1181 then
                    if r.val < 1179 then
                      (64#32, 576#32, 17#32)
                    else
                      if r.val < 1180 then
                        (64#32, 608#32, 16#32)
                      else
                        (64#32, 608#32, 17#32)
                  else
                    if r.val < 1183 then
                      if r.val < 1182 then
                        (64#32, 608#32, 18#32)
                      else
                        (64#32, 640#32, 0#32)
                    else
                      if r.val < 1184 then
                        (64#32, 672#32, 0#32)
                      else
                        (64#32, 704#32, 0#32)
                else
                  if r.val < 1189 then
                    if r.val < 1187 then
                      if r.val < 1186 then
                        (64#32, 736#32, 0#32)
                      else
                        (64#32, 640#32, 1#32)
                    else
                      if r.val < 1188 then
                        (64#32, 672#32, 1#32)
                      else
                        (64#32, 704#32, 1#32)
                  else
                    if r.val < 1191 then
                      if r.val < 1190 then
                        (64#32, 736#32, 1#32)
                      else
                        (64#32, 640#32, 2#32)
                    else
                      if r.val < 1192 then
                        (64#32, 672#32, 2#32)
                      else
                        (64#32, 704#32, 2#32)
              else
                if r.val < 1201 then
                  if r.val < 1197 then
                    if r.val < 1195 then
                      if r.val < 1194 then
                        (64#32, 736#32, 2#32)
                      else
                        (64#32, 640#32, 3#32)
                    else
                      if r.val < 1196 then
                        (64#32, 672#32, 3#32)
                      else
                        (64#32, 704#32, 3#32)
                  else
                    if r.val < 1199 then
                      if r.val < 1198 then
                        (64#32, 736#32, 3#32)
                      else
                        (64#32, 640#32, 4#32)
                    else
                      if r.val < 1200 then
                        (64#32, 672#32, 4#32)
                      else
                        (64#32, 704#32, 4#32)
                else
                  if r.val < 1205 then
                    if r.val < 1203 then
                      if r.val < 1202 then
                        (64#32, 736#32, 4#32)
                      else
                        (64#32, 640#32, 5#32)
                    else
                      if r.val < 1204 then
                        (64#32, 672#32, 5#32)
                      else
                        (64#32, 704#32, 5#32)
                  else
                    if r.val < 1207 then
                      if r.val < 1206 then
                        (64#32, 736#32, 5#32)
                      else
                        (64#32, 640#32, 6#32)
                    else
                      if r.val < 1208 then
                        (64#32, 672#32, 6#32)
                      else
                        (64#32, 704#32, 6#32)
            else
              if r.val < 1224 then
                if r.val < 1216 then
                  if r.val < 1212 then
                    if r.val < 1210 then
                      (64#32, 736#32, 6#32)
                    else
                      if r.val < 1211 then
                        (64#32, 640#32, 7#32)
                      else
                        (64#32, 672#32, 7#32)
                  else
                    if r.val < 1214 then
                      if r.val < 1213 then
                        (64#32, 704#32, 7#32)
                      else
                        (64#32, 736#32, 7#32)
                    else
                      if r.val < 1215 then
                        (64#32, 640#32, 8#32)
                      else
                        (64#32, 672#32, 8#32)
                else
                  if r.val < 1220 then
                    if r.val < 1218 then
                      if r.val < 1217 then
                        (64#32, 704#32, 8#32)
                      else
                        (64#32, 736#32, 8#32)
                    else
                      if r.val < 1219 then
                        (64#32, 640#32, 9#32)
                      else
                        (64#32, 672#32, 9#32)
                  else
                    if r.val < 1222 then
                      if r.val < 1221 then
                        (64#32, 704#32, 9#32)
                      else
                        (64#32, 736#32, 9#32)
                    else
                      if r.val < 1223 then
                        (64#32, 640#32, 10#32)
                      else
                        (64#32, 672#32, 10#32)
              else
                if r.val < 1232 then
                  if r.val < 1228 then
                    if r.val < 1226 then
                      if r.val < 1225 then
                        (64#32, 704#32, 10#32)
                      else
                        (64#32, 736#32, 10#32)
                    else
                      if r.val < 1227 then
                        (64#32, 640#32, 11#32)
                      else
                        (64#32, 672#32, 11#32)
                  else
                    if r.val < 1230 then
                      if r.val < 1229 then
                        (64#32, 704#32, 11#32)
                      else
                        (64#32, 736#32, 11#32)
                    else
                      if r.val < 1231 then
                        (64#32, 640#32, 12#32)
                      else
                        (64#32, 672#32, 12#32)
                else
                  if r.val < 1236 then
                    if r.val < 1234 then
                      if r.val < 1233 then
                        (64#32, 704#32, 12#32)
                      else
                        (64#32, 736#32, 12#32)
                    else
                      if r.val < 1235 then
                        (64#32, 640#32, 13#32)
                      else
                        (64#32, 672#32, 13#32)
                  else
                    if r.val < 1238 then
                      if r.val < 1237 then
                        (64#32, 704#32, 13#32)
                      else
                        (64#32, 736#32, 13#32)
                    else
                      if r.val < 1239 then
                        (64#32, 640#32, 14#32)
                      else
                        (64#32, 672#32, 14#32)
      else
        if r.val < 1364 then
          if r.val < 1302 then
            if r.val < 1271 then
              if r.val < 1255 then
                if r.val < 1247 then
                  if r.val < 1243 then
                    if r.val < 1241 then
                      (64#32, 704#32, 14#32)
                    else
                      if r.val < 1242 then
                        (64#32, 736#32, 14#32)
                      else
                        (64#32, 640#32, 15#32)
                  else
                    if r.val < 1245 then
                      if r.val < 1244 then
                        (64#32, 672#32, 15#32)
                      else
                        (64#32, 704#32, 15#32)
                    else
                      if r.val < 1246 then
                        (64#32, 736#32, 15#32)
                      else
                        (64#32, 640#32, 16#32)
                else
                  if r.val < 1251 then
                    if r.val < 1249 then
                      if r.val < 1248 then
                        (64#32, 672#32, 16#32)
                      else
                        (64#32, 704#32, 16#32)
                    else
                      if r.val < 1250 then
                        (64#32, 736#32, 16#32)
                      else
                        (64#32, 640#32, 17#32)
                  else
                    if r.val < 1253 then
                      if r.val < 1252 then
                        (64#32, 672#32, 17#32)
                      else
                        (64#32, 704#32, 17#32)
                    else
                      if r.val < 1254 then
                        (64#32, 736#32, 17#32)
                      else
                        (64#32, 640#32, 18#32)
              else
                if r.val < 1263 then
                  if r.val < 1259 then
                    if r.val < 1257 then
                      if r.val < 1256 then
                        (64#32, 672#32, 18#32)
                      else
                        (64#32, 704#32, 18#32)
                    else
                      if r.val < 1258 then
                        (64#32, 736#32, 18#32)
                      else
                        (64#32, 640#32, 19#32)
                  else
                    if r.val < 1261 then
                      if r.val < 1260 then
                        (64#32, 672#32, 19#32)
                      else
                        (64#32, 704#32, 19#32)
                    else
                      if r.val < 1262 then
                        (64#32, 736#32, 19#32)
                      else
                        (64#32, 672#32, 20#32)
                else
                  if r.val < 1267 then
                    if r.val < 1265 then
                      if r.val < 1264 then
                        (64#32, 704#32, 20#32)
                      else
                        (64#32, 704#32, 21#32)
                    else
                      if r.val < 1266 then
                        (64#32, 736#32, 20#32)
                      else
                        (64#32, 736#32, 21#32)
                  else
                    if r.val < 1269 then
                      if r.val < 1268 then
                        (64#32, 736#32, 22#32)
                      else
                        (64#32, 768#32, 0#32)
                    else
                      if r.val < 1270 then
                        (64#32, 800#32, 0#32)
                      else
                        (64#32, 832#32, 0#32)
            else
              if r.val < 1286 then
                if r.val < 1278 then
                  if r.val < 1274 then
                    if r.val < 1272 then
                      (64#32, 864#32, 0#32)
                    else
                      if r.val < 1273 then
                        (64#32, 768#32, 1#32)
                      else
                        (64#32, 800#32, 1#32)
                  else
                    if r.val < 1276 then
                      if r.val < 1275 then
                        (64#32, 832#32, 1#32)
                      else
                        (64#32, 864#32, 1#32)
                    else
                      if r.val < 1277 then
                        (64#32, 768#32, 2#32)
                      else
                        (64#32, 800#32, 2#32)
                else
                  if r.val < 1282 then
                    if r.val < 1280 then
                      if r.val < 1279 then
                        (64#32, 832#32, 2#32)
                      else
                        (64#32, 864#32, 2#32)
                    else
                      if r.val < 1281 then
                        (64#32, 768#32, 3#32)
                      else
                        (64#32, 800#32, 3#32)
                  else
                    if r.val < 1284 then
                      if r.val < 1283 then
                        (64#32, 832#32, 3#32)
                      else
                        (64#32, 864#32, 3#32)
                    else
                      if r.val < 1285 then
                        (64#32, 768#32, 4#32)
                      else
                        (64#32, 800#32, 4#32)
              else
                if r.val < 1294 then
                  if r.val < 1290 then
                    if r.val < 1288 then
                      if r.val < 1287 then
                        (64#32, 832#32, 4#32)
                      else
                        (64#32, 864#32, 4#32)
                    else
                      if r.val < 1289 then
                        (64#32, 768#32, 5#32)
                      else
                        (64#32, 800#32, 5#32)
                  else
                    if r.val < 1292 then
                      if r.val < 1291 then
                        (64#32, 832#32, 5#32)
                      else
                        (64#32, 864#32, 5#32)
                    else
                      if r.val < 1293 then
                        (64#32, 768#32, 6#32)
                      else
                        (64#32, 800#32, 6#32)
                else
                  if r.val < 1298 then
                    if r.val < 1296 then
                      if r.val < 1295 then
                        (64#32, 832#32, 6#32)
                      else
                        (64#32, 864#32, 6#32)
                    else
                      if r.val < 1297 then
                        (64#32, 768#32, 7#32)
                      else
                        (64#32, 800#32, 7#32)
                  else
                    if r.val < 1300 then
                      if r.val < 1299 then
                        (64#32, 832#32, 7#32)
                      else
                        (64#32, 864#32, 7#32)
                    else
                      if r.val < 1301 then
                        (64#32, 768#32, 8#32)
                      else
                        (64#32, 800#32, 8#32)
          else
            if r.val < 1333 then
              if r.val < 1317 then
                if r.val < 1309 then
                  if r.val < 1305 then
                    if r.val < 1303 then
                      (64#32, 832#32, 8#32)
                    else
                      if r.val < 1304 then
                        (64#32, 864#32, 8#32)
                      else
                        (64#32, 768#32, 9#32)
                  else
                    if r.val < 1307 then
                      if r.val < 1306 then
                        (64#32, 800#32, 9#32)
                      else
                        (64#32, 832#32, 9#32)
                    else
                      if r.val < 1308 then
                        (64#32, 864#32, 9#32)
                      else
                        (64#32, 768#32, 10#32)
                else
                  if r.val < 1313 then
                    if r.val < 1311 then
                      if r.val < 1310 then
                        (64#32, 800#32, 10#32)
                      else
                        (64#32, 832#32, 10#32)
                    else
                      if r.val < 1312 then
                        (64#32, 864#32, 10#32)
                      else
                        (64#32, 768#32, 11#32)
                  else
                    if r.val < 1315 then
                      if r.val < 1314 then
                        (64#32, 800#32, 11#32)
                      else
                        (64#32, 832#32, 11#32)
                    else
                      if r.val < 1316 then
                        (64#32, 864#32, 11#32)
                      else
                        (64#32, 768#32, 12#32)
              else
                if r.val < 1325 then
                  if r.val < 1321 then
                    if r.val < 1319 then
                      if r.val < 1318 then
                        (64#32, 800#32, 12#32)
                      else
                        (64#32, 832#32, 12#32)
                    else
                      if r.val < 1320 then
                        (64#32, 864#32, 12#32)
                      else
                        (64#32, 768#32, 13#32)
                  else
                    if r.val < 1323 then
                      if r.val < 1322 then
                        (64#32, 800#32, 13#32)
                      else
                        (64#32, 832#32, 13#32)
                    else
                      if r.val < 1324 then
                        (64#32, 864#32, 13#32)
                      else
                        (64#32, 768#32, 14#32)
                else
                  if r.val < 1329 then
                    if r.val < 1327 then
                      if r.val < 1326 then
                        (64#32, 800#32, 14#32)
                      else
                        (64#32, 832#32, 14#32)
                    else
                      if r.val < 1328 then
                        (64#32, 864#32, 14#32)
                      else
                        (64#32, 768#32, 15#32)
                  else
                    if r.val < 1331 then
                      if r.val < 1330 then
                        (64#32, 800#32, 15#32)
                      else
                        (64#32, 832#32, 15#32)
                    else
                      if r.val < 1332 then
                        (64#32, 864#32, 15#32)
                      else
                        (64#32, 768#32, 16#32)
            else
              if r.val < 1348 then
                if r.val < 1340 then
                  if r.val < 1336 then
                    if r.val < 1334 then
                      (64#32, 800#32, 16#32)
                    else
                      if r.val < 1335 then
                        (64#32, 832#32, 16#32)
                      else
                        (64#32, 864#32, 16#32)
                  else
                    if r.val < 1338 then
                      if r.val < 1337 then
                        (64#32, 768#32, 17#32)
                      else
                        (64#32, 800#32, 17#32)
                    else
                      if r.val < 1339 then
                        (64#32, 832#32, 17#32)
                      else
                        (64#32, 864#32, 17#32)
                else
                  if r.val < 1344 then
                    if r.val < 1342 then
                      if r.val < 1341 then
                        (64#32, 768#32, 18#32)
                      else
                        (64#32, 800#32, 18#32)
                    else
                      if r.val < 1343 then
                        (64#32, 832#32, 18#32)
                      else
                        (64#32, 864#32, 18#32)
                  else
                    if r.val < 1346 then
                      if r.val < 1345 then
                        (64#32, 768#32, 19#32)
                      else
                        (64#32, 800#32, 19#32)
                    else
                      if r.val < 1347 then
                        (64#32, 832#32, 19#32)
                      else
                        (64#32, 864#32, 19#32)
              else
                if r.val < 1356 then
                  if r.val < 1352 then
                    if r.val < 1350 then
                      if r.val < 1349 then
                        (64#32, 768#32, 20#32)
                      else
                        (64#32, 800#32, 20#32)
                    else
                      if r.val < 1351 then
                        (64#32, 832#32, 20#32)
                      else
                        (64#32, 864#32, 20#32)
                  else
                    if r.val < 1354 then
                      if r.val < 1353 then
                        (64#32, 768#32, 21#32)
                      else
                        (64#32, 800#32, 21#32)
                    else
                      if r.val < 1355 then
                        (64#32, 832#32, 21#32)
                      else
                        (64#32, 864#32, 21#32)
                else
                  if r.val < 1360 then
                    if r.val < 1358 then
                      if r.val < 1357 then
                        (64#32, 768#32, 22#32)
                      else
                        (64#32, 800#32, 22#32)
                    else
                      if r.val < 1359 then
                        (64#32, 832#32, 22#32)
                      else
                        (64#32, 864#32, 22#32)
                  else
                    if r.val < 1362 then
                      if r.val < 1361 then
                        (64#32, 768#32, 23#32)
                      else
                        (64#32, 800#32, 23#32)
                    else
                      if r.val < 1363 then
                        (64#32, 832#32, 23#32)
                      else
                        (64#32, 864#32, 23#32)
        else
          if r.val < 1426 then
            if r.val < 1395 then
              if r.val < 1379 then
                if r.val < 1371 then
                  if r.val < 1367 then
                    if r.val < 1365 then
                      (64#32, 800#32, 24#32)
                    else
                      if r.val < 1366 then
                        (64#32, 832#32, 24#32)
                      else
                        (64#32, 832#32, 25#32)
                  else
                    if r.val < 1369 then
                      if r.val < 1368 then
                        (64#32, 864#32, 24#32)
                      else
                        (64#32, 864#32, 25#32)
                    else
                      if r.val < 1370 then
                        (64#32, 864#32, 26#32)
                      else
                        (64#32, 896#32, 0#32)
                else
                  if r.val < 1375 then
                    if r.val < 1373 then
                      if r.val < 1372 then
                        (64#32, 928#32, 0#32)
                      else
                        (64#32, 960#32, 0#32)
                    else
                      if r.val < 1374 then
                        (64#32, 992#32, 0#32)
                      else
                        (64#32, 896#32, 1#32)
                  else
                    if r.val < 1377 then
                      if r.val < 1376 then
                        (64#32, 928#32, 1#32)
                      else
                        (64#32, 960#32, 1#32)
                    else
                      if r.val < 1378 then
                        (64#32, 992#32, 1#32)
                      else
                        (64#32, 896#32, 2#32)
              else
                if r.val < 1387 then
                  if r.val < 1383 then
                    if r.val < 1381 then
                      if r.val < 1380 then
                        (64#32, 928#32, 2#32)
                      else
                        (64#32, 960#32, 2#32)
                    else
                      if r.val < 1382 then
                        (64#32, 992#32, 2#32)
                      else
                        (64#32, 896#32, 3#32)
                  else
                    if r.val < 1385 then
                      if r.val < 1384 then
                        (64#32, 928#32, 3#32)
                      else
                        (64#32, 960#32, 3#32)
                    else
                      if r.val < 1386 then
                        (64#32, 992#32, 3#32)
                      else
                        (64#32, 896#32, 4#32)
                else
                  if r.val < 1391 then
                    if r.val < 1389 then
                      if r.val < 1388 then
                        (64#32, 928#32, 4#32)
                      else
                        (64#32, 960#32, 4#32)
                    else
                      if r.val < 1390 then
                        (64#32, 992#32, 4#32)
                      else
                        (64#32, 896#32, 5#32)
                  else
                    if r.val < 1393 then
                      if r.val < 1392 then
                        (64#32, 928#32, 5#32)
                      else
                        (64#32, 960#32, 5#32)
                    else
                      if r.val < 1394 then
                        (64#32, 992#32, 5#32)
                      else
                        (64#32, 896#32, 6#32)
            else
              if r.val < 1410 then
                if r.val < 1402 then
                  if r.val < 1398 then
                    if r.val < 1396 then
                      (64#32, 928#32, 6#32)
                    else
                      if r.val < 1397 then
                        (64#32, 960#32, 6#32)
                      else
                        (64#32, 992#32, 6#32)
                  else
                    if r.val < 1400 then
                      if r.val < 1399 then
                        (64#32, 896#32, 7#32)
                      else
                        (64#32, 928#32, 7#32)
                    else
                      if r.val < 1401 then
                        (64#32, 960#32, 7#32)
                      else
                        (64#32, 992#32, 7#32)
                else
                  if r.val < 1406 then
                    if r.val < 1404 then
                      if r.val < 1403 then
                        (64#32, 896#32, 8#32)
                      else
                        (64#32, 928#32, 8#32)
                    else
                      if r.val < 1405 then
                        (64#32, 960#32, 8#32)
                      else
                        (64#32, 992#32, 8#32)
                  else
                    if r.val < 1408 then
                      if r.val < 1407 then
                        (64#32, 896#32, 9#32)
                      else
                        (64#32, 928#32, 9#32)
                    else
                      if r.val < 1409 then
                        (64#32, 960#32, 9#32)
                      else
                        (64#32, 992#32, 9#32)
              else
                if r.val < 1418 then
                  if r.val < 1414 then
                    if r.val < 1412 then
                      if r.val < 1411 then
                        (64#32, 896#32, 10#32)
                      else
                        (64#32, 928#32, 10#32)
                    else
                      if r.val < 1413 then
                        (64#32, 960#32, 10#32)
                      else
                        (64#32, 992#32, 10#32)
                  else
                    if r.val < 1416 then
                      if r.val < 1415 then
                        (64#32, 896#32, 11#32)
                      else
                        (64#32, 928#32, 11#32)
                    else
                      if r.val < 1417 then
                        (64#32, 960#32, 11#32)
                      else
                        (64#32, 992#32, 11#32)
                else
                  if r.val < 1422 then
                    if r.val < 1420 then
                      if r.val < 1419 then
                        (64#32, 896#32, 12#32)
                      else
                        (64#32, 928#32, 12#32)
                    else
                      if r.val < 1421 then
                        (64#32, 960#32, 12#32)
                      else
                        (64#32, 992#32, 12#32)
                  else
                    if r.val < 1424 then
                      if r.val < 1423 then
                        (64#32, 896#32, 13#32)
                      else
                        (64#32, 928#32, 13#32)
                    else
                      if r.val < 1425 then
                        (64#32, 960#32, 13#32)
                      else
                        (64#32, 992#32, 13#32)
          else
            if r.val < 1457 then
              if r.val < 1441 then
                if r.val < 1433 then
                  if r.val < 1429 then
                    if r.val < 1427 then
                      (64#32, 896#32, 14#32)
                    else
                      if r.val < 1428 then
                        (64#32, 928#32, 14#32)
                      else
                        (64#32, 960#32, 14#32)
                  else
                    if r.val < 1431 then
                      if r.val < 1430 then
                        (64#32, 992#32, 14#32)
                      else
                        (64#32, 896#32, 15#32)
                    else
                      if r.val < 1432 then
                        (64#32, 928#32, 15#32)
                      else
                        (64#32, 960#32, 15#32)
                else
                  if r.val < 1437 then
                    if r.val < 1435 then
                      if r.val < 1434 then
                        (64#32, 992#32, 15#32)
                      else
                        (64#32, 896#32, 16#32)
                    else
                      if r.val < 1436 then
                        (64#32, 928#32, 16#32)
                      else
                        (64#32, 960#32, 16#32)
                  else
                    if r.val < 1439 then
                      if r.val < 1438 then
                        (64#32, 992#32, 16#32)
                      else
                        (64#32, 896#32, 17#32)
                    else
                      if r.val < 1440 then
                        (64#32, 928#32, 17#32)
                      else
                        (64#32, 960#32, 17#32)
              else
                if r.val < 1449 then
                  if r.val < 1445 then
                    if r.val < 1443 then
                      if r.val < 1442 then
                        (64#32, 992#32, 17#32)
                      else
                        (64#32, 896#32, 18#32)
                    else
                      if r.val < 1444 then
                        (64#32, 928#32, 18#32)
                      else
                        (64#32, 960#32, 18#32)
                  else
                    if r.val < 1447 then
                      if r.val < 1446 then
                        (64#32, 992#32, 18#32)
                      else
                        (64#32, 896#32, 19#32)
                    else
                      if r.val < 1448 then
                        (64#32, 928#32, 19#32)
                      else
                        (64#32, 960#32, 19#32)
                else
                  if r.val < 1453 then
                    if r.val < 1451 then
                      if r.val < 1450 then
                        (64#32, 992#32, 19#32)
                      else
                        (64#32, 896#32, 20#32)
                    else
                      if r.val < 1452 then
                        (64#32, 928#32, 20#32)
                      else
                        (64#32, 960#32, 20#32)
                  else
                    if r.val < 1455 then
                      if r.val < 1454 then
                        (64#32, 992#32, 20#32)
                      else
                        (64#32, 896#32, 21#32)
                    else
                      if r.val < 1456 then
                        (64#32, 928#32, 21#32)
                      else
                        (64#32, 960#32, 21#32)
            else
              if r.val < 1472 then
                if r.val < 1464 then
                  if r.val < 1460 then
                    if r.val < 1458 then
                      (64#32, 992#32, 21#32)
                    else
                      if r.val < 1459 then
                        (64#32, 896#32, 22#32)
                      else
                        (64#32, 928#32, 22#32)
                  else
                    if r.val < 1462 then
                      if r.val < 1461 then
                        (64#32, 960#32, 22#32)
                      else
                        (64#32, 992#32, 22#32)
                    else
                      if r.val < 1463 then
                        (64#32, 896#32, 23#32)
                      else
                        (64#32, 928#32, 23#32)
                else
                  if r.val < 1468 then
                    if r.val < 1466 then
                      if r.val < 1465 then
                        (64#32, 960#32, 23#32)
                      else
                        (64#32, 992#32, 23#32)
                    else
                      if r.val < 1467 then
                        (64#32, 896#32, 24#32)
                      else
                        (64#32, 928#32, 24#32)
                  else
                    if r.val < 1470 then
                      if r.val < 1469 then
                        (64#32, 960#32, 24#32)
                      else
                        (64#32, 992#32, 24#32)
                    else
                      if r.val < 1471 then
                        (64#32, 896#32, 25#32)
                      else
                        (64#32, 928#32, 25#32)
              else
                if r.val < 1480 then
                  if r.val < 1476 then
                    if r.val < 1474 then
                      if r.val < 1473 then
                        (64#32, 960#32, 25#32)
                      else
                        (64#32, 992#32, 25#32)
                    else
                      if r.val < 1475 then
                        (64#32, 896#32, 26#32)
                      else
                        (64#32, 928#32, 26#32)
                  else
                    if r.val < 1478 then
                      if r.val < 1477 then
                        (64#32, 960#32, 26#32)
                      else
                        (64#32, 992#32, 26#32)
                    else
                      if r.val < 1479 then
                        (64#32, 896#32, 27#32)
                      else
                        (64#32, 928#32, 27#32)
                else
                  if r.val < 1484 then
                    if r.val < 1482 then
                      if r.val < 1481 then
                        (64#32, 960#32, 27#32)
                      else
                        (64#32, 992#32, 27#32)
                    else
                      if r.val < 1483 then
                        (64#32, 928#32, 28#32)
                      else
                        (64#32, 960#32, 28#32)
                  else
                    if r.val < 1486 then
                      if r.val < 1485 then
                        (64#32, 960#32, 29#32)
                      else
                        (64#32, 992#32, 28#32)
                    else
                      if r.val < 1487 then
                        (64#32, 992#32, 29#32)
                      else
                        (64#32, 992#32, 30#32)
    else
      if r.val < 1736 then
        if r.val < 1612 then
          if r.val < 1550 then
            if r.val < 1519 then
              if r.val < 1503 then
                if r.val < 1495 then
                  if r.val < 1491 then
                    if r.val < 1489 then
                      (96#32, 32#32, 0#32)
                    else
                      if r.val < 1490 then
                        (96#32, 64#32, 0#32)
                      else
                        (96#32, 64#32, 1#32)
                  else
                    if r.val < 1493 then
                      if r.val < 1492 then
                        (96#32, 96#32, 0#32)
                      else
                        (96#32, 96#32, 1#32)
                    else
                      if r.val < 1494 then
                        (96#32, 96#32, 2#32)
                      else
                        (96#32, 128#32, 0#32)
                else
                  if r.val < 1499 then
                    if r.val < 1497 then
                      if r.val < 1496 then
                        (96#32, 160#32, 0#32)
                      else
                        (96#32, 192#32, 0#32)
                    else
                      if r.val < 1498 then
                        (96#32, 224#32, 0#32)
                      else
                        (96#32, 128#32, 1#32)
                  else
                    if r.val < 1501 then
                      if r.val < 1500 then
                        (96#32, 160#32, 1#32)
                      else
                        (96#32, 192#32, 1#32)
                    else
                      if r.val < 1502 then
                        (96#32, 224#32, 1#32)
                      else
                        (96#32, 128#32, 2#32)
              else
                if r.val < 1511 then
                  if r.val < 1507 then
                    if r.val < 1505 then
                      if r.val < 1504 then
                        (96#32, 160#32, 2#32)
                      else
                        (96#32, 192#32, 2#32)
                    else
                      if r.val < 1506 then
                        (96#32, 224#32, 2#32)
                      else
                        (96#32, 128#32, 3#32)
                  else
                    if r.val < 1509 then
                      if r.val < 1508 then
                        (96#32, 160#32, 3#32)
                      else
                        (96#32, 192#32, 3#32)
                    else
                      if r.val < 1510 then
                        (96#32, 224#32, 3#32)
                      else
                        (96#32, 160#32, 4#32)
                else
                  if r.val < 1515 then
                    if r.val < 1513 then
                      if r.val < 1512 then
                        (96#32, 192#32, 4#32)
                      else
                        (96#32, 192#32, 5#32)
                    else
                      if r.val < 1514 then
                        (96#32, 224#32, 4#32)
                      else
                        (96#32, 224#32, 5#32)
                  else
                    if r.val < 1517 then
                      if r.val < 1516 then
                        (96#32, 224#32, 6#32)
                      else
                        (96#32, 256#32, 0#32)
                    else
                      if r.val < 1518 then
                        (96#32, 288#32, 0#32)
                      else
                        (96#32, 320#32, 0#32)
            else
              if r.val < 1534 then
                if r.val < 1526 then
                  if r.val < 1522 then
                    if r.val < 1520 then
                      (96#32, 352#32, 0#32)
                    else
                      if r.val < 1521 then
                        (96#32, 256#32, 1#32)
                      else
                        (96#32, 288#32, 1#32)
                  else
                    if r.val < 1524 then
                      if r.val < 1523 then
                        (96#32, 320#32, 1#32)
                      else
                        (96#32, 352#32, 1#32)
                    else
                      if r.val < 1525 then
                        (96#32, 256#32, 2#32)
                      else
                        (96#32, 288#32, 2#32)
                else
                  if r.val < 1530 then
                    if r.val < 1528 then
                      if r.val < 1527 then
                        (96#32, 320#32, 2#32)
                      else
                        (96#32, 352#32, 2#32)
                    else
                      if r.val < 1529 then
                        (96#32, 256#32, 3#32)
                      else
                        (96#32, 288#32, 3#32)
                  else
                    if r.val < 1532 then
                      if r.val < 1531 then
                        (96#32, 320#32, 3#32)
                      else
                        (96#32, 352#32, 3#32)
                    else
                      if r.val < 1533 then
                        (96#32, 256#32, 4#32)
                      else
                        (96#32, 288#32, 4#32)
              else
                if r.val < 1542 then
                  if r.val < 1538 then
                    if r.val < 1536 then
                      if r.val < 1535 then
                        (96#32, 320#32, 4#32)
                      else
                        (96#32, 352#32, 4#32)
                    else
                      if r.val < 1537 then
                        (96#32, 256#32, 5#32)
                      else
                        (96#32, 288#32, 5#32)
                  else
                    if r.val < 1540 then
                      if r.val < 1539 then
                        (96#32, 320#32, 5#32)
                      else
                        (96#32, 352#32, 5#32)
                    else
                      if r.val < 1541 then
                        (96#32, 256#32, 6#32)
                      else
                        (96#32, 288#32, 6#32)
                else
                  if r.val < 1546 then
                    if r.val < 1544 then
                      if r.val < 1543 then
                        (96#32, 320#32, 6#32)
                      else
                        (96#32, 352#32, 6#32)
                    else
                      if r.val < 1545 then
                        (96#32, 256#32, 7#32)
                      else
                        (96#32, 288#32, 7#32)
                  else
                    if r.val < 1548 then
                      if r.val < 1547 then
                        (96#32, 320#32, 7#32)
                      else
                        (96#32, 352#32, 7#32)
                    else
                      if r.val < 1549 then
                        (96#32, 288#32, 8#32)
                      else
                        (96#32, 320#32, 8#32)
          else
            if r.val < 1581 then
              if r.val < 1565 then
                if r.val < 1557 then
                  if r.val < 1553 then
                    if r.val < 1551 then
                      (96#32, 320#32, 9#32)
                    else
                      if r.val < 1552 then
                        (96#32, 352#32, 8#32)
                      else
                        (96#32, 352#32, 9#32)
                  else
                    if r.val < 1555 then
                      if r.val < 1554 then
                        (96#32, 352#32, 10#32)
                      else
                        (96#32, 384#32, 0#32)
                    else
                      if r.val < 1556 then
                        (96#32, 416#32, 0#32)
                      else
                        (96#32, 448#32, 0#32)
                else
                  if r.val < 1561 then
                    if r.val < 1559 then
                      if r.val < 1558 then
                        (96#32, 480#32, 0#32)
                      else
                        (96#32, 384#32, 1#32)
                    else
                      if r.val < 1560 then
                        (96#32, 416#32, 1#32)
                      else
                        (96#32, 448#32, 1#32)
                  else
                    if r.val < 1563 then
                      if r.val < 1562 then
                        (96#32, 480#32, 1#32)
                      else
                        (96#32, 384#32, 2#32)
                    else
                      if r.val < 1564 then
                        (96#32, 416#32, 2#32)
                      else
                        (96#32, 448#32, 2#32)
              else
                if r.val < 1573 then
                  if r.val < 1569 then
                    if r.val < 1567 then
                      if r.val < 1566 then
                        (96#32, 480#32, 2#32)
                      else
                        (96#32, 384#32, 3#32)
                    else
                      if r.val < 1568 then
                        (96#32, 416#32, 3#32)
                      else
                        (96#32, 448#32, 3#32)
                  else
                    if r.val < 1571 then
                      if r.val < 1570 then
                        (96#32, 480#32, 3#32)
                      else
                        (96#32, 384#32, 4#32)
                    else
                      if r.val < 1572 then
                        (96#32, 416#32, 4#32)
                      else
                        (96#32, 448#32, 4#32)
                else
                  if r.val < 1577 then
                    if r.val < 1575 then
                      if r.val < 1574 then
                        (96#32, 480#32, 4#32)
                      else
                        (96#32, 384#32, 5#32)
                    else
                      if r.val < 1576 then
                        (96#32, 416#32, 5#32)
                      else
                        (96#32, 448#32, 5#32)
                  else
                    if r.val < 1579 then
                      if r.val < 1578 then
                        (96#32, 480#32, 5#32)
                      else
                        (96#32, 384#32, 6#32)
                    else
                      if r.val < 1580 then
                        (96#32, 416#32, 6#32)
                      else
                        (96#32, 448#32, 6#32)
            else
              if r.val < 1596 then
                if r.val < 1588 then
                  if r.val < 1584 then
                    if r.val < 1582 then
                      (96#32, 480#32, 6#32)
                    else
                      if r.val < 1583 then
                        (96#32, 384#32, 7#32)
                      else
                        (96#32, 416#32, 7#32)
                  else
                    if r.val < 1586 then
                      if r.val < 1585 then
                        (96#32, 448#32, 7#32)
                      else
                        (96#32, 480#32, 7#32)
                    else
                      if r.val < 1587 then
                        (96#32, 384#32, 8#32)
                      else
                        (96#32, 416#32, 8#32)
                else
                  if r.val < 1592 then
                    if r.val < 1590 then
                      if r.val < 1589 then
                        (96#32, 448#32, 8#32)
                      else
                        (96#32, 480#32, 8#32)
                    else
                      if r.val < 1591 then
                        (96#32, 384#32, 9#32)
                      else
                        (96#32, 416#32, 9#32)
                  else
                    if r.val < 1594 then
                      if r.val < 1593 then
                        (96#32, 448#32, 9#32)
                      else
                        (96#32, 480#32, 9#32)
                    else
                      if r.val < 1595 then
                        (96#32, 384#32, 10#32)
                      else
                        (96#32, 416#32, 10#32)
              else
                if r.val < 1604 then
                  if r.val < 1600 then
                    if r.val < 1598 then
                      if r.val < 1597 then
                        (96#32, 448#32, 10#32)
                      else
                        (96#32, 480#32, 10#32)
                    else
                      if r.val < 1599 then
                        (96#32, 384#32, 11#32)
                      else
                        (96#32, 416#32, 11#32)
                  else
                    if r.val < 1602 then
                      if r.val < 1601 then
                        (96#32, 448#32, 11#32)
                      else
                        (96#32, 480#32, 11#32)
                    else
                      if r.val < 1603 then
                        (96#32, 416#32, 12#32)
                      else
                        (96#32, 448#32, 12#32)
                else
                  if r.val < 1608 then
                    if r.val < 1606 then
                      if r.val < 1605 then
                        (96#32, 448#32, 13#32)
                      else
                        (96#32, 480#32, 12#32)
                    else
                      if r.val < 1607 then
                        (96#32, 480#32, 13#32)
                      else
                        (96#32, 480#32, 14#32)
                  else
                    if r.val < 1610 then
                      if r.val < 1609 then
                        (96#32, 512#32, 0#32)
                      else
                        (96#32, 544#32, 0#32)
                    else
                      if r.val < 1611 then
                        (96#32, 576#32, 0#32)
                      else
                        (96#32, 608#32, 0#32)
        else
          if r.val < 1674 then
            if r.val < 1643 then
              if r.val < 1627 then
                if r.val < 1619 then
                  if r.val < 1615 then
                    if r.val < 1613 then
                      (96#32, 512#32, 1#32)
                    else
                      if r.val < 1614 then
                        (96#32, 544#32, 1#32)
                      else
                        (96#32, 576#32, 1#32)
                  else
                    if r.val < 1617 then
                      if r.val < 1616 then
                        (96#32, 608#32, 1#32)
                      else
                        (96#32, 512#32, 2#32)
                    else
                      if r.val < 1618 then
                        (96#32, 544#32, 2#32)
                      else
                        (96#32, 576#32, 2#32)
                else
                  if r.val < 1623 then
                    if r.val < 1621 then
                      if r.val < 1620 then
                        (96#32, 608#32, 2#32)
                      else
                        (96#32, 512#32, 3#32)
                    else
                      if r.val < 1622 then
                        (96#32, 544#32, 3#32)
                      else
                        (96#32, 576#32, 3#32)
                  else
                    if r.val < 1625 then
                      if r.val < 1624 then
                        (96#32, 608#32, 3#32)
                      else
                        (96#32, 512#32, 4#32)
                    else
                      if r.val < 1626 then
                        (96#32, 544#32, 4#32)
                      else
                        (96#32, 576#32, 4#32)
              else
                if r.val < 1635 then
                  if r.val < 1631 then
                    if r.val < 1629 then
                      if r.val < 1628 then
                        (96#32, 608#32, 4#32)
                      else
                        (96#32, 512#32, 5#32)
                    else
                      if r.val < 1630 then
                        (96#32, 544#32, 5#32)
                      else
                        (96#32, 576#32, 5#32)
                  else
                    if r.val < 1633 then
                      if r.val < 1632 then
                        (96#32, 608#32, 5#32)
                      else
                        (96#32, 512#32, 6#32)
                    else
                      if r.val < 1634 then
                        (96#32, 544#32, 6#32)
                      else
                        (96#32, 576#32, 6#32)
                else
                  if r.val < 1639 then
                    if r.val < 1637 then
                      if r.val < 1636 then
                        (96#32, 608#32, 6#32)
                      else
                        (96#32, 512#32, 7#32)
                    else
                      if r.val < 1638 then
                        (96#32, 544#32, 7#32)
                      else
                        (96#32, 576#32, 7#32)
                  else
                    if r.val < 1641 then
                      if r.val < 1640 then
                        (96#32, 608#32, 7#32)
                      else
                        (96#32, 512#32, 8#32)
                    else
                      if r.val < 1642 then
                        (96#32, 544#32, 8#32)
                      else
                        (96#32, 576#32, 8#32)
            else
              if r.val < 1658 then
                if r.val < 1650 then
                  if r.val < 1646 then
                    if r.val < 1644 then
                      (96#32, 608#32, 8#32)
                    else
                      if r.val < 1645 then
                        (96#32, 512#32, 9#32)
                      else
                        (96#32, 544#32, 9#32)
                  else
                    if r.val < 1648 then
                      if r.val < 1647 then
                        (96#32, 576#32, 9#32)
                      else
                        (96#32, 608#32, 9#32)
                    else
                      if r.val < 1649 then
                        (96#32, 512#32, 10#32)
                      else
                        (96#32, 544#32, 10#32)
                else
                  if r.val < 1654 then
                    if r.val < 1652 then
                      if r.val < 1651 then
                        (96#32, 576#32, 10#32)
                      else
                        (96#32, 608#32, 10#32)
                    else
                      if r.val < 1653 then
                        (96#32, 512#32, 11#32)
                      else
                        (96#32, 544#32, 11#32)
                  else
                    if r.val < 1656 then
                      if r.val < 1655 then
                        (96#32, 576#32, 11#32)
                      else
                        (96#32, 608#32, 11#32)
                    else
                      if r.val < 1657 then
                        (96#32, 512#32, 12#32)
                      else
                        (96#32, 544#32, 12#32)
              else
                if r.val < 1666 then
                  if r.val < 1662 then
                    if r.val < 1660 then
                      if r.val < 1659 then
                        (96#32, 576#32, 12#32)
                      else
                        (96#32, 608#32, 12#32)
                    else
                      if r.val < 1661 then
                        (96#32, 512#32, 13#32)
                      else
                        (96#32, 544#32, 13#32)
                  else
                    if r.val < 1664 then
                      if r.val < 1663 then
                        (96#32, 576#32, 13#32)
                      else
                        (96#32, 608#32, 13#32)
                    else
                      if r.val < 1665 then
                        (96#32, 512#32, 14#32)
                      else
                        (96#32, 544#32, 14#32)
                else
                  if r.val < 1670 then
                    if r.val < 1668 then
                      if r.val < 1667 then
                        (96#32, 576#32, 14#32)
                      else
                        (96#32, 608#32, 14#32)
                    else
                      if r.val < 1669 then
                        (96#32, 512#32, 15#32)
                      else
                        (96#32, 544#32, 15#32)
                  else
                    if r.val < 1672 then
                      if r.val < 1671 then
                        (96#32, 576#32, 15#32)
                      else
                        (96#32, 608#32, 15#32)
                    else
                      if r.val < 1673 then
                        (96#32, 544#32, 16#32)
                      else
                        (96#32, 576#32, 16#32)
          else
            if r.val < 1705 then
              if r.val < 1689 then
                if r.val < 1681 then
                  if r.val < 1677 then
                    if r.val < 1675 then
                      (96#32, 576#32, 17#32)
                    else
                      if r.val < 1676 then
                        (96#32, 608#32, 16#32)
                      else
                        (96#32, 608#32, 17#32)
                  else
                    if r.val < 1679 then
                      if r.val < 1678 then
                        (96#32, 608#32, 18#32)
                      else
                        (96#32, 640#32, 0#32)
                    else
                      if r.val < 1680 then
                        (96#32, 672#32, 0#32)
                      else
                        (96#32, 704#32, 0#32)
                else
                  if r.val < 1685 then
                    if r.val < 1683 then
                      if r.val < 1682 then
                        (96#32, 736#32, 0#32)
                      else
                        (96#32, 640#32, 1#32)
                    else
                      if r.val < 1684 then
                        (96#32, 672#32, 1#32)
                      else
                        (96#32, 704#32, 1#32)
                  else
                    if r.val < 1687 then
                      if r.val < 1686 then
                        (96#32, 736#32, 1#32)
                      else
                        (96#32, 640#32, 2#32)
                    else
                      if r.val < 1688 then
                        (96#32, 672#32, 2#32)
                      else
                        (96#32, 704#32, 2#32)
              else
                if r.val < 1697 then
                  if r.val < 1693 then
                    if r.val < 1691 then
                      if r.val < 1690 then
                        (96#32, 736#32, 2#32)
                      else
                        (96#32, 640#32, 3#32)
                    else
                      if r.val < 1692 then
                        (96#32, 672#32, 3#32)
                      else
                        (96#32, 704#32, 3#32)
                  else
                    if r.val < 1695 then
                      if r.val < 1694 then
                        (96#32, 736#32, 3#32)
                      else
                        (96#32, 640#32, 4#32)
                    else
                      if r.val < 1696 then
                        (96#32, 672#32, 4#32)
                      else
                        (96#32, 704#32, 4#32)
                else
                  if r.val < 1701 then
                    if r.val < 1699 then
                      if r.val < 1698 then
                        (96#32, 736#32, 4#32)
                      else
                        (96#32, 640#32, 5#32)
                    else
                      if r.val < 1700 then
                        (96#32, 672#32, 5#32)
                      else
                        (96#32, 704#32, 5#32)
                  else
                    if r.val < 1703 then
                      if r.val < 1702 then
                        (96#32, 736#32, 5#32)
                      else
                        (96#32, 640#32, 6#32)
                    else
                      if r.val < 1704 then
                        (96#32, 672#32, 6#32)
                      else
                        (96#32, 704#32, 6#32)
            else
              if r.val < 1720 then
                if r.val < 1712 then
                  if r.val < 1708 then
                    if r.val < 1706 then
                      (96#32, 736#32, 6#32)
                    else
                      if r.val < 1707 then
                        (96#32, 640#32, 7#32)
                      else
                        (96#32, 672#32, 7#32)
                  else
                    if r.val < 1710 then
                      if r.val < 1709 then
                        (96#32, 704#32, 7#32)
                      else
                        (96#32, 736#32, 7#32)
                    else
                      if r.val < 1711 then
                        (96#32, 640#32, 8#32)
                      else
                        (96#32, 672#32, 8#32)
                else
                  if r.val < 1716 then
                    if r.val < 1714 then
                      if r.val < 1713 then
                        (96#32, 704#32, 8#32)
                      else
                        (96#32, 736#32, 8#32)
                    else
                      if r.val < 1715 then
                        (96#32, 640#32, 9#32)
                      else
                        (96#32, 672#32, 9#32)
                  else
                    if r.val < 1718 then
                      if r.val < 1717 then
                        (96#32, 704#32, 9#32)
                      else
                        (96#32, 736#32, 9#32)
                    else
                      if r.val < 1719 then
                        (96#32, 640#32, 10#32)
                      else
                        (96#32, 672#32, 10#32)
              else
                if r.val < 1728 then
                  if r.val < 1724 then
                    if r.val < 1722 then
                      if r.val < 1721 then
                        (96#32, 704#32, 10#32)
                      else
                        (96#32, 736#32, 10#32)
                    else
                      if r.val < 1723 then
                        (96#32, 640#32, 11#32)
                      else
                        (96#32, 672#32, 11#32)
                  else
                    if r.val < 1726 then
                      if r.val < 1725 then
                        (96#32, 704#32, 11#32)
                      else
                        (96#32, 736#32, 11#32)
                    else
                      if r.val < 1727 then
                        (96#32, 640#32, 12#32)
                      else
                        (96#32, 672#32, 12#32)
                else
                  if r.val < 1732 then
                    if r.val < 1730 then
                      if r.val < 1729 then
                        (96#32, 704#32, 12#32)
                      else
                        (96#32, 736#32, 12#32)
                    else
                      if r.val < 1731 then
                        (96#32, 640#32, 13#32)
                      else
                        (96#32, 672#32, 13#32)
                  else
                    if r.val < 1734 then
                      if r.val < 1733 then
                        (96#32, 704#32, 13#32)
                      else
                        (96#32, 736#32, 13#32)
                    else
                      if r.val < 1735 then
                        (96#32, 640#32, 14#32)
                      else
                        (96#32, 672#32, 14#32)
      else
        if r.val < 1860 then
          if r.val < 1798 then
            if r.val < 1767 then
              if r.val < 1751 then
                if r.val < 1743 then
                  if r.val < 1739 then
                    if r.val < 1737 then
                      (96#32, 704#32, 14#32)
                    else
                      if r.val < 1738 then
                        (96#32, 736#32, 14#32)
                      else
                        (96#32, 640#32, 15#32)
                  else
                    if r.val < 1741 then
                      if r.val < 1740 then
                        (96#32, 672#32, 15#32)
                      else
                        (96#32, 704#32, 15#32)
                    else
                      if r.val < 1742 then
                        (96#32, 736#32, 15#32)
                      else
                        (96#32, 640#32, 16#32)
                else
                  if r.val < 1747 then
                    if r.val < 1745 then
                      if r.val < 1744 then
                        (96#32, 672#32, 16#32)
                      else
                        (96#32, 704#32, 16#32)
                    else
                      if r.val < 1746 then
                        (96#32, 736#32, 16#32)
                      else
                        (96#32, 640#32, 17#32)
                  else
                    if r.val < 1749 then
                      if r.val < 1748 then
                        (96#32, 672#32, 17#32)
                      else
                        (96#32, 704#32, 17#32)
                    else
                      if r.val < 1750 then
                        (96#32, 736#32, 17#32)
                      else
                        (96#32, 640#32, 18#32)
              else
                if r.val < 1759 then
                  if r.val < 1755 then
                    if r.val < 1753 then
                      if r.val < 1752 then
                        (96#32, 672#32, 18#32)
                      else
                        (96#32, 704#32, 18#32)
                    else
                      if r.val < 1754 then
                        (96#32, 736#32, 18#32)
                      else
                        (96#32, 640#32, 19#32)
                  else
                    if r.val < 1757 then
                      if r.val < 1756 then
                        (96#32, 672#32, 19#32)
                      else
                        (96#32, 704#32, 19#32)
                    else
                      if r.val < 1758 then
                        (96#32, 736#32, 19#32)
                      else
                        (96#32, 672#32, 20#32)
                else
                  if r.val < 1763 then
                    if r.val < 1761 then
                      if r.val < 1760 then
                        (96#32, 704#32, 20#32)
                      else
                        (96#32, 704#32, 21#32)
                    else
                      if r.val < 1762 then
                        (96#32, 736#32, 20#32)
                      else
                        (96#32, 736#32, 21#32)
                  else
                    if r.val < 1765 then
                      if r.val < 1764 then
                        (96#32, 736#32, 22#32)
                      else
                        (96#32, 768#32, 0#32)
                    else
                      if r.val < 1766 then
                        (96#32, 800#32, 0#32)
                      else
                        (96#32, 832#32, 0#32)
            else
              if r.val < 1782 then
                if r.val < 1774 then
                  if r.val < 1770 then
                    if r.val < 1768 then
                      (96#32, 864#32, 0#32)
                    else
                      if r.val < 1769 then
                        (96#32, 768#32, 1#32)
                      else
                        (96#32, 800#32, 1#32)
                  else
                    if r.val < 1772 then
                      if r.val < 1771 then
                        (96#32, 832#32, 1#32)
                      else
                        (96#32, 864#32, 1#32)
                    else
                      if r.val < 1773 then
                        (96#32, 768#32, 2#32)
                      else
                        (96#32, 800#32, 2#32)
                else
                  if r.val < 1778 then
                    if r.val < 1776 then
                      if r.val < 1775 then
                        (96#32, 832#32, 2#32)
                      else
                        (96#32, 864#32, 2#32)
                    else
                      if r.val < 1777 then
                        (96#32, 768#32, 3#32)
                      else
                        (96#32, 800#32, 3#32)
                  else
                    if r.val < 1780 then
                      if r.val < 1779 then
                        (96#32, 832#32, 3#32)
                      else
                        (96#32, 864#32, 3#32)
                    else
                      if r.val < 1781 then
                        (96#32, 768#32, 4#32)
                      else
                        (96#32, 800#32, 4#32)
              else
                if r.val < 1790 then
                  if r.val < 1786 then
                    if r.val < 1784 then
                      if r.val < 1783 then
                        (96#32, 832#32, 4#32)
                      else
                        (96#32, 864#32, 4#32)
                    else
                      if r.val < 1785 then
                        (96#32, 768#32, 5#32)
                      else
                        (96#32, 800#32, 5#32)
                  else
                    if r.val < 1788 then
                      if r.val < 1787 then
                        (96#32, 832#32, 5#32)
                      else
                        (96#32, 864#32, 5#32)
                    else
                      if r.val < 1789 then
                        (96#32, 768#32, 6#32)
                      else
                        (96#32, 800#32, 6#32)
                else
                  if r.val < 1794 then
                    if r.val < 1792 then
                      if r.val < 1791 then
                        (96#32, 832#32, 6#32)
                      else
                        (96#32, 864#32, 6#32)
                    else
                      if r.val < 1793 then
                        (96#32, 768#32, 7#32)
                      else
                        (96#32, 800#32, 7#32)
                  else
                    if r.val < 1796 then
                      if r.val < 1795 then
                        (96#32, 832#32, 7#32)
                      else
                        (96#32, 864#32, 7#32)
                    else
                      if r.val < 1797 then
                        (96#32, 768#32, 8#32)
                      else
                        (96#32, 800#32, 8#32)
          else
            if r.val < 1829 then
              if r.val < 1813 then
                if r.val < 1805 then
                  if r.val < 1801 then
                    if r.val < 1799 then
                      (96#32, 832#32, 8#32)
                    else
                      if r.val < 1800 then
                        (96#32, 864#32, 8#32)
                      else
                        (96#32, 768#32, 9#32)
                  else
                    if r.val < 1803 then
                      if r.val < 1802 then
                        (96#32, 800#32, 9#32)
                      else
                        (96#32, 832#32, 9#32)
                    else
                      if r.val < 1804 then
                        (96#32, 864#32, 9#32)
                      else
                        (96#32, 768#32, 10#32)
                else
                  if r.val < 1809 then
                    if r.val < 1807 then
                      if r.val < 1806 then
                        (96#32, 800#32, 10#32)
                      else
                        (96#32, 832#32, 10#32)
                    else
                      if r.val < 1808 then
                        (96#32, 864#32, 10#32)
                      else
                        (96#32, 768#32, 11#32)
                  else
                    if r.val < 1811 then
                      if r.val < 1810 then
                        (96#32, 800#32, 11#32)
                      else
                        (96#32, 832#32, 11#32)
                    else
                      if r.val < 1812 then
                        (96#32, 864#32, 11#32)
                      else
                        (96#32, 768#32, 12#32)
              else
                if r.val < 1821 then
                  if r.val < 1817 then
                    if r.val < 1815 then
                      if r.val < 1814 then
                        (96#32, 800#32, 12#32)
                      else
                        (96#32, 832#32, 12#32)
                    else
                      if r.val < 1816 then
                        (96#32, 864#32, 12#32)
                      else
                        (96#32, 768#32, 13#32)
                  else
                    if r.val < 1819 then
                      if r.val < 1818 then
                        (96#32, 800#32, 13#32)
                      else
                        (96#32, 832#32, 13#32)
                    else
                      if r.val < 1820 then
                        (96#32, 864#32, 13#32)
                      else
                        (96#32, 768#32, 14#32)
                else
                  if r.val < 1825 then
                    if r.val < 1823 then
                      if r.val < 1822 then
                        (96#32, 800#32, 14#32)
                      else
                        (96#32, 832#32, 14#32)
                    else
                      if r.val < 1824 then
                        (96#32, 864#32, 14#32)
                      else
                        (96#32, 768#32, 15#32)
                  else
                    if r.val < 1827 then
                      if r.val < 1826 then
                        (96#32, 800#32, 15#32)
                      else
                        (96#32, 832#32, 15#32)
                    else
                      if r.val < 1828 then
                        (96#32, 864#32, 15#32)
                      else
                        (96#32, 768#32, 16#32)
            else
              if r.val < 1844 then
                if r.val < 1836 then
                  if r.val < 1832 then
                    if r.val < 1830 then
                      (96#32, 800#32, 16#32)
                    else
                      if r.val < 1831 then
                        (96#32, 832#32, 16#32)
                      else
                        (96#32, 864#32, 16#32)
                  else
                    if r.val < 1834 then
                      if r.val < 1833 then
                        (96#32, 768#32, 17#32)
                      else
                        (96#32, 800#32, 17#32)
                    else
                      if r.val < 1835 then
                        (96#32, 832#32, 17#32)
                      else
                        (96#32, 864#32, 17#32)
                else
                  if r.val < 1840 then
                    if r.val < 1838 then
                      if r.val < 1837 then
                        (96#32, 768#32, 18#32)
                      else
                        (96#32, 800#32, 18#32)
                    else
                      if r.val < 1839 then
                        (96#32, 832#32, 18#32)
                      else
                        (96#32, 864#32, 18#32)
                  else
                    if r.val < 1842 then
                      if r.val < 1841 then
                        (96#32, 768#32, 19#32)
                      else
                        (96#32, 800#32, 19#32)
                    else
                      if r.val < 1843 then
                        (96#32, 832#32, 19#32)
                      else
                        (96#32, 864#32, 19#32)
              else
                if r.val < 1852 then
                  if r.val < 1848 then
                    if r.val < 1846 then
                      if r.val < 1845 then
                        (96#32, 768#32, 20#32)
                      else
                        (96#32, 800#32, 20#32)
                    else
                      if r.val < 1847 then
                        (96#32, 832#32, 20#32)
                      else
                        (96#32, 864#32, 20#32)
                  else
                    if r.val < 1850 then
                      if r.val < 1849 then
                        (96#32, 768#32, 21#32)
                      else
                        (96#32, 800#32, 21#32)
                    else
                      if r.val < 1851 then
                        (96#32, 832#32, 21#32)
                      else
                        (96#32, 864#32, 21#32)
                else
                  if r.val < 1856 then
                    if r.val < 1854 then
                      if r.val < 1853 then
                        (96#32, 768#32, 22#32)
                      else
                        (96#32, 800#32, 22#32)
                    else
                      if r.val < 1855 then
                        (96#32, 832#32, 22#32)
                      else
                        (96#32, 864#32, 22#32)
                  else
                    if r.val < 1858 then
                      if r.val < 1857 then
                        (96#32, 768#32, 23#32)
                      else
                        (96#32, 800#32, 23#32)
                    else
                      if r.val < 1859 then
                        (96#32, 832#32, 23#32)
                      else
                        (96#32, 864#32, 23#32)
        else
          if r.val < 1922 then
            if r.val < 1891 then
              if r.val < 1875 then
                if r.val < 1867 then
                  if r.val < 1863 then
                    if r.val < 1861 then
                      (96#32, 800#32, 24#32)
                    else
                      if r.val < 1862 then
                        (96#32, 832#32, 24#32)
                      else
                        (96#32, 832#32, 25#32)
                  else
                    if r.val < 1865 then
                      if r.val < 1864 then
                        (96#32, 864#32, 24#32)
                      else
                        (96#32, 864#32, 25#32)
                    else
                      if r.val < 1866 then
                        (96#32, 864#32, 26#32)
                      else
                        (96#32, 896#32, 0#32)
                else
                  if r.val < 1871 then
                    if r.val < 1869 then
                      if r.val < 1868 then
                        (96#32, 928#32, 0#32)
                      else
                        (96#32, 960#32, 0#32)
                    else
                      if r.val < 1870 then
                        (96#32, 992#32, 0#32)
                      else
                        (96#32, 896#32, 1#32)
                  else
                    if r.val < 1873 then
                      if r.val < 1872 then
                        (96#32, 928#32, 1#32)
                      else
                        (96#32, 960#32, 1#32)
                    else
                      if r.val < 1874 then
                        (96#32, 992#32, 1#32)
                      else
                        (96#32, 896#32, 2#32)
              else
                if r.val < 1883 then
                  if r.val < 1879 then
                    if r.val < 1877 then
                      if r.val < 1876 then
                        (96#32, 928#32, 2#32)
                      else
                        (96#32, 960#32, 2#32)
                    else
                      if r.val < 1878 then
                        (96#32, 992#32, 2#32)
                      else
                        (96#32, 896#32, 3#32)
                  else
                    if r.val < 1881 then
                      if r.val < 1880 then
                        (96#32, 928#32, 3#32)
                      else
                        (96#32, 960#32, 3#32)
                    else
                      if r.val < 1882 then
                        (96#32, 992#32, 3#32)
                      else
                        (96#32, 896#32, 4#32)
                else
                  if r.val < 1887 then
                    if r.val < 1885 then
                      if r.val < 1884 then
                        (96#32, 928#32, 4#32)
                      else
                        (96#32, 960#32, 4#32)
                    else
                      if r.val < 1886 then
                        (96#32, 992#32, 4#32)
                      else
                        (96#32, 896#32, 5#32)
                  else
                    if r.val < 1889 then
                      if r.val < 1888 then
                        (96#32, 928#32, 5#32)
                      else
                        (96#32, 960#32, 5#32)
                    else
                      if r.val < 1890 then
                        (96#32, 992#32, 5#32)
                      else
                        (96#32, 896#32, 6#32)
            else
              if r.val < 1906 then
                if r.val < 1898 then
                  if r.val < 1894 then
                    if r.val < 1892 then
                      (96#32, 928#32, 6#32)
                    else
                      if r.val < 1893 then
                        (96#32, 960#32, 6#32)
                      else
                        (96#32, 992#32, 6#32)
                  else
                    if r.val < 1896 then
                      if r.val < 1895 then
                        (96#32, 896#32, 7#32)
                      else
                        (96#32, 928#32, 7#32)
                    else
                      if r.val < 1897 then
                        (96#32, 960#32, 7#32)
                      else
                        (96#32, 992#32, 7#32)
                else
                  if r.val < 1902 then
                    if r.val < 1900 then
                      if r.val < 1899 then
                        (96#32, 896#32, 8#32)
                      else
                        (96#32, 928#32, 8#32)
                    else
                      if r.val < 1901 then
                        (96#32, 960#32, 8#32)
                      else
                        (96#32, 992#32, 8#32)
                  else
                    if r.val < 1904 then
                      if r.val < 1903 then
                        (96#32, 896#32, 9#32)
                      else
                        (96#32, 928#32, 9#32)
                    else
                      if r.val < 1905 then
                        (96#32, 960#32, 9#32)
                      else
                        (96#32, 992#32, 9#32)
              else
                if r.val < 1914 then
                  if r.val < 1910 then
                    if r.val < 1908 then
                      if r.val < 1907 then
                        (96#32, 896#32, 10#32)
                      else
                        (96#32, 928#32, 10#32)
                    else
                      if r.val < 1909 then
                        (96#32, 960#32, 10#32)
                      else
                        (96#32, 992#32, 10#32)
                  else
                    if r.val < 1912 then
                      if r.val < 1911 then
                        (96#32, 896#32, 11#32)
                      else
                        (96#32, 928#32, 11#32)
                    else
                      if r.val < 1913 then
                        (96#32, 960#32, 11#32)
                      else
                        (96#32, 992#32, 11#32)
                else
                  if r.val < 1918 then
                    if r.val < 1916 then
                      if r.val < 1915 then
                        (96#32, 896#32, 12#32)
                      else
                        (96#32, 928#32, 12#32)
                    else
                      if r.val < 1917 then
                        (96#32, 960#32, 12#32)
                      else
                        (96#32, 992#32, 12#32)
                  else
                    if r.val < 1920 then
                      if r.val < 1919 then
                        (96#32, 896#32, 13#32)
                      else
                        (96#32, 928#32, 13#32)
                    else
                      if r.val < 1921 then
                        (96#32, 960#32, 13#32)
                      else
                        (96#32, 992#32, 13#32)
          else
            if r.val < 1953 then
              if r.val < 1937 then
                if r.val < 1929 then
                  if r.val < 1925 then
                    if r.val < 1923 then
                      (96#32, 896#32, 14#32)
                    else
                      if r.val < 1924 then
                        (96#32, 928#32, 14#32)
                      else
                        (96#32, 960#32, 14#32)
                  else
                    if r.val < 1927 then
                      if r.val < 1926 then
                        (96#32, 992#32, 14#32)
                      else
                        (96#32, 896#32, 15#32)
                    else
                      if r.val < 1928 then
                        (96#32, 928#32, 15#32)
                      else
                        (96#32, 960#32, 15#32)
                else
                  if r.val < 1933 then
                    if r.val < 1931 then
                      if r.val < 1930 then
                        (96#32, 992#32, 15#32)
                      else
                        (96#32, 896#32, 16#32)
                    else
                      if r.val < 1932 then
                        (96#32, 928#32, 16#32)
                      else
                        (96#32, 960#32, 16#32)
                  else
                    if r.val < 1935 then
                      if r.val < 1934 then
                        (96#32, 992#32, 16#32)
                      else
                        (96#32, 896#32, 17#32)
                    else
                      if r.val < 1936 then
                        (96#32, 928#32, 17#32)
                      else
                        (96#32, 960#32, 17#32)
              else
                if r.val < 1945 then
                  if r.val < 1941 then
                    if r.val < 1939 then
                      if r.val < 1938 then
                        (96#32, 992#32, 17#32)
                      else
                        (96#32, 896#32, 18#32)
                    else
                      if r.val < 1940 then
                        (96#32, 928#32, 18#32)
                      else
                        (96#32, 960#32, 18#32)
                  else
                    if r.val < 1943 then
                      if r.val < 1942 then
                        (96#32, 992#32, 18#32)
                      else
                        (96#32, 896#32, 19#32)
                    else
                      if r.val < 1944 then
                        (96#32, 928#32, 19#32)
                      else
                        (96#32, 960#32, 19#32)
                else
                  if r.val < 1949 then
                    if r.val < 1947 then
                      if r.val < 1946 then
                        (96#32, 992#32, 19#32)
                      else
                        (96#32, 896#32, 20#32)
                    else
                      if r.val < 1948 then
                        (96#32, 928#32, 20#32)
                      else
                        (96#32, 960#32, 20#32)
                  else
                    if r.val < 1951 then
                      if r.val < 1950 then
                        (96#32, 992#32, 20#32)
                      else
                        (96#32, 896#32, 21#32)
                    else
                      if r.val < 1952 then
                        (96#32, 928#32, 21#32)
                      else
                        (96#32, 960#32, 21#32)
            else
              if r.val < 1968 then
                if r.val < 1960 then
                  if r.val < 1956 then
                    if r.val < 1954 then
                      (96#32, 992#32, 21#32)
                    else
                      if r.val < 1955 then
                        (96#32, 896#32, 22#32)
                      else
                        (96#32, 928#32, 22#32)
                  else
                    if r.val < 1958 then
                      if r.val < 1957 then
                        (96#32, 960#32, 22#32)
                      else
                        (96#32, 992#32, 22#32)
                    else
                      if r.val < 1959 then
                        (96#32, 896#32, 23#32)
                      else
                        (96#32, 928#32, 23#32)
                else
                  if r.val < 1964 then
                    if r.val < 1962 then
                      if r.val < 1961 then
                        (96#32, 960#32, 23#32)
                      else
                        (96#32, 992#32, 23#32)
                    else
                      if r.val < 1963 then
                        (96#32, 896#32, 24#32)
                      else
                        (96#32, 928#32, 24#32)
                  else
                    if r.val < 1966 then
                      if r.val < 1965 then
                        (96#32, 960#32, 24#32)
                      else
                        (96#32, 992#32, 24#32)
                    else
                      if r.val < 1967 then
                        (96#32, 896#32, 25#32)
                      else
                        (96#32, 928#32, 25#32)
              else
                if r.val < 1976 then
                  if r.val < 1972 then
                    if r.val < 1970 then
                      if r.val < 1969 then
                        (96#32, 960#32, 25#32)
                      else
                        (96#32, 992#32, 25#32)
                    else
                      if r.val < 1971 then
                        (96#32, 896#32, 26#32)
                      else
                        (96#32, 928#32, 26#32)
                  else
                    if r.val < 1974 then
                      if r.val < 1973 then
                        (96#32, 960#32, 26#32)
                      else
                        (96#32, 992#32, 26#32)
                    else
                      if r.val < 1975 then
                        (96#32, 896#32, 27#32)
                      else
                        (96#32, 928#32, 27#32)
                else
                  if r.val < 1980 then
                    if r.val < 1978 then
                      if r.val < 1977 then
                        (96#32, 960#32, 27#32)
                      else
                        (96#32, 992#32, 27#32)
                    else
                      if r.val < 1979 then
                        (96#32, 928#32, 28#32)
                      else
                        (96#32, 960#32, 28#32)
                  else
                    if r.val < 1982 then
                      if r.val < 1981 then
                        (96#32, 960#32, 29#32)
                      else
                        (96#32, 992#32, 28#32)
                    else
                      if r.val < 1983 then
                        (96#32, 992#32, 29#32)
                      else
                        (96#32, 992#32, 30#32)
def k0_off26 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let c32_i32_3766 : BitVec 32 := 32#32
  let v7642 : BitVec 32 := Scalar.addi v1 c32_i32_3766
  let v7643 : Index := Scalar.indexCast v7642
  let v7644 : Index := Scalar.indexCast v1
  ![v7643.toNat, v7644.toNat]
def k0_off27 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let c32_i32_3778 : BitVec 32 := 32#32
  let v7668 : BitVec 32 := Scalar.addi v1 c32_i32_3778
  let v7669 : Index := Scalar.indexCast v7668
  let c0_3779 : Index := 0#32
  ![v7669.toNat, 0]
def k0_off28 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let c64_i32_7806 : BitVec 32 := 64#32
  let v15310 : BitVec 32 := Scalar.addi v1 c64_i32_7806
  let v15311 : Index := Scalar.indexCast v15310
  let v15312 : Index := Scalar.indexCast v1
  ![v15311.toNat, v15312.toNat]
def k0_off29 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let c64_i32_7818 : BitVec 32 := 64#32
  let v15336 : BitVec 32 := Scalar.addi v1 c64_i32_7818
  let v15337 : Index := Scalar.indexCast v15336
  let c0_7819 : Index := 0#32
  ![v15337.toNat, 0]
def k0_off30 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let c96_i32_11847 : BitVec 32 := 96#32
  let v22978 : BitVec 32 := Scalar.addi v1 c96_i32_11847
  let v22979 : Index := Scalar.indexCast v22978
  let v22980 : Index := Scalar.indexCast v1
  ![v22979.toNat, v22980.toNat]
def k0_off31 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let c96_i32_11859 : BitVec 32 := 96#32
  let v23004 : BitVec 32 := Scalar.addi v1 c96_i32_11859
  let v23005 : Index := Scalar.indexCast v23004
  let c0_11860 : Index := 0#32
  ![v23005.toNat, 0]
@[reducible] def k0_t1_loop (i : grid0.Coords) : Scf.Loop 32 :=
  let arg0 : BitVec 32 := BitVec.ofNat 32 (i 0).val
  let c1_i32_15888 : BitVec 32 := 1#32
  let v30646 : BitVec 32 := Scalar.addi arg0 c1_i32_15888
  let c8_i32_15890 : BitVec 32 := 8#32
  let v30647 : BitVec 32 := Scalar.subi c8_i32_15890 v30646
  let c1_i32_15891 : BitVec 32 := 1#32
  let v30649 : BitVec 32 := Scalar.divsi v30647 c1_i32_15891
  let v30650 : BitVec 32 := Scalar.muli v30649 c1_i32_15891
  let v30651 : BitVec 32 := Scalar.addi v30646 v30650
  let c1_i32_15892 : BitVec 32 := 1#32
  ⟨v30646, v30651, c1_i32_15892⟩
def k0_mult3 (i : grid0.Coords) (k0_t1 : Fin (k0_t1_loop i).trips) : BitVec 32 :=
  let arg0 : BitVec 32 := BitVec.ofNat 32 (i 0).val
  let c1_i32_15888 : BitVec 32 := 1#32
  let v30646 : BitVec 32 := Scalar.addi arg0 c1_i32_15888
  let c1_i32_15892 : BitVec 32 := 1#32
  let arg17 : BitVec 32 := Scf.iv v30646 c1_i32_15892 k0_t1
  let c128_i32_15894 : BitVec 32 := 128#32
  let v30652 : BitVec 32 := Scalar.muli arg17 c128_i32_15894
  v30652
def k0_off32 (i : grid0.Coords) (k0_t1 : Fin (k0_t1_loop i).trips) : Fin 2 → Nat :=
  let arg0 : BitVec 32 := BitVec.ofNat 32 (i 0).val
  let c1_i32_15888 : BitVec 32 := 1#32
  let v30646 : BitVec 32 := Scalar.addi arg0 c1_i32_15888
  let c1_i32_15892 : BitVec 32 := 1#32
  let arg17 : BitVec 32 := Scf.iv v30646 c1_i32_15892 k0_t1
  let c128_i32_15894 : BitVec 32 := 128#32
  let v30652 : BitVec 32 := Scalar.muli arg17 c128_i32_15894
  let v30653 : BitVec 32 := v30652
  let v30654 : Index := Scalar.indexCast v30653
  let c128_i32 : BitVec 32 := 128#32
  let v0 : BitVec 32 := Scalar.muli arg0 c128_i32
  let v1 : BitVec 32 := v0
  let v30655 : Index := Scalar.indexCast v1
  ![v30654.toNat, v30655.toNat]
def k0_off33 (i : grid0.Coords) (k0_t1 : Fin (k0_t1_loop i).trips) : Fin 2 → Nat :=
  let arg0 : BitVec 32 := BitVec.ofNat 32 (i 0).val
  let c1_i32_15888 : BitVec 32 := 1#32
  let v30646 : BitVec 32 := Scalar.addi arg0 c1_i32_15888
  let c1_i32_15892 : BitVec 32 := 1#32
  let arg17 : BitVec 32 := Scf.iv v30646 c1_i32_15892 k0_t1
  let c128_i32_15894 : BitVec 32 := 128#32
  let v30652 : BitVec 32 := Scalar.muli arg17 c128_i32_15894
  let v30653 : BitVec 32 := v30652
  let v30664 : Index := Scalar.indexCast v30653
  let c0_15895 : Index := 0#32
  ![v30664.toNat, 0]
@[reducible] def k0_t2_loop (i : grid0.Coords) : Scf.Loop 32 :=
  let arg0 : BitVec 32 := BitVec.ofNat 32 (i 0).val
  let c1_i32_15888 : BitVec 32 := 1#32
  let v30646 : BitVec 32 := Scalar.addi arg0 c1_i32_15888
  let c8_i32_15890 : BitVec 32 := 8#32
  let v30647 : BitVec 32 := Scalar.subi c8_i32_15890 v30646
  let c1_i32_15891 : BitVec 32 := 1#32
  let v30649 : BitVec 32 := Scalar.divsi v30647 c1_i32_15891
  let v30650 : BitVec 32 := Scalar.muli v30649 c1_i32_15891
  let v30651 : BitVec 32 := Scalar.addi v30646 v30650
  let v30648 : BitVec 32 := Scalar.addi v30646 v30647
  let c1_i32_15893 : BitVec 32 := 1#32
  ⟨v30651, v30648, c1_i32_15893⟩
def k0_mult4 (i : grid0.Coords) (k0_t2 : Fin (k0_t2_loop i).trips) : BitVec 32 :=
  let arg0 : BitVec 32 := BitVec.ofNat 32 (i 0).val
  let c1_i32_15888 : BitVec 32 := 1#32
  let v30646 : BitVec 32 := Scalar.addi arg0 c1_i32_15888
  let c8_i32_15890 : BitVec 32 := 8#32
  let v30647 : BitVec 32 := Scalar.subi c8_i32_15890 v30646
  let c1_i32_15891 : BitVec 32 := 1#32
  let v30649 : BitVec 32 := Scalar.divsi v30647 c1_i32_15891
  let v30650 : BitVec 32 := Scalar.muli v30649 c1_i32_15891
  let v30651 : BitVec 32 := Scalar.addi v30646 v30650
  let c1_i32_15893 : BitVec 32 := 1#32
  let arg17 : BitVec 32 := Scf.iv v30651 c1_i32_15893 k0_t2
  let c128_i32_15894 : BitVec 32 := 128#32
  let v30652 : BitVec 32 := Scalar.muli arg17 c128_i32_15894
  v30652
def k0_off34 (i : grid0.Coords) (k0_t2 : Fin (k0_t2_loop i).trips) : Fin 2 → Nat :=
  let arg0 : BitVec 32 := BitVec.ofNat 32 (i 0).val
  let c1_i32_15888 : BitVec 32 := 1#32
  let v30646 : BitVec 32 := Scalar.addi arg0 c1_i32_15888
  let c8_i32_15890 : BitVec 32 := 8#32
  let v30647 : BitVec 32 := Scalar.subi c8_i32_15890 v30646
  let c1_i32_15891 : BitVec 32 := 1#32
  let v30649 : BitVec 32 := Scalar.divsi v30647 c1_i32_15891
  let v30650 : BitVec 32 := Scalar.muli v30649 c1_i32_15891
  let v30651 : BitVec 32 := Scalar.addi v30646 v30650
  let c1_i32_15893 : BitVec 32 := 1#32
  let arg17 : BitVec 32 := Scf.iv v30651 c1_i32_15893 k0_t2
  let c128_i32_15894 : BitVec 32 := 128#32
  let v30652 : BitVec 32 := Scalar.muli arg17 c128_i32_15894
  let v30653 : BitVec 32 := v30652
  let v30654 : Index := Scalar.indexCast v30653
  let c128_i32 : BitVec 32 := 128#32
  let v0 : BitVec 32 := Scalar.muli arg0 c128_i32
  let v1 : BitVec 32 := v0
  let v30655 : Index := Scalar.indexCast v1
  ![v30654.toNat, v30655.toNat]
def k0_off35 (i : grid0.Coords) (k0_t2 : Fin (k0_t2_loop i).trips) : Fin 2 → Nat :=
  let arg0 : BitVec 32 := BitVec.ofNat 32 (i 0).val
  let c1_i32_15888 : BitVec 32 := 1#32
  let v30646 : BitVec 32 := Scalar.addi arg0 c1_i32_15888
  let c8_i32_15890 : BitVec 32 := 8#32
  let v30647 : BitVec 32 := Scalar.subi c8_i32_15890 v30646
  let c1_i32_15891 : BitVec 32 := 1#32
  let v30649 : BitVec 32 := Scalar.divsi v30647 c1_i32_15891
  let v30650 : BitVec 32 := Scalar.muli v30649 c1_i32_15891
  let v30651 : BitVec 32 := Scalar.addi v30646 v30650
  let c1_i32_15893 : BitVec 32 := 1#32
  let arg17 : BitVec 32 := Scf.iv v30651 c1_i32_15893 k0_t2
  let c128_i32_15894 : BitVec 32 := 128#32
  let v30652 : BitVec 32 := Scalar.muli arg17 c128_i32_15894
  let v30653 : BitVec 32 := v30652
  let v30664 : Index := Scalar.indexCast v30653
  let c0_15895 : Index := 0#32
  ![v30664.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2816 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Proof.GramBodyKernel.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if`: the point is the first of the grid. -/
abbrev cond0_0 (i : grid0.Coords) : Prop := (Scalar.cmpi .ne (Scalar.extui (Scalar.cmpi .eq (BitVec.ofNat 32 (i 0).val) 0#32)) 0#32) = 1#1

/-- What one grid point does to the accumulator `xo`, on the token block `x0`: the four column blocks, each from its
diagonal down, have the matching products added; everything above the diagonal blocks stays. -/
def step (x0 : Vec F S1x2048x1024 .bf16) (xo : Vec F S1024x1024 .f32) : Vec F S1024x1024 .f32 :=
  VecWindow.put (VecWindow.put (VecWindow.put (VecWindow.put xo
    ![0, 0] S1024x256.size (k0_pay5 (VecWindow.window xo ![0, 0] S1024x256.size inb_S1024x1024_S1024x256_0_0)
      (VecWindow.window (k0_pay4 x0) ![0, 0] S1024x2048.size inb_S1024x2048_S1024x2048_0_0)
      (VecWindow.window x0 ![0, 0, 0] S1x2048x256.size inb_S1x2048x1024_S1x2048x256_0_0_0)))
    ![256, 256] S768x256.size (k0_pay6 (VecWindow.window xo ![256, 256] S768x256.size inb_S1024x1024_S768x256_256_256)
      (VecWindow.window (k0_pay4 x0) ![256, 0] S768x2048.size inb_S1024x2048_S768x2048_256_0)
      (VecWindow.window x0 ![0, 0, 256] S1x2048x256.size inb_S1x2048x1024_S1x2048x256_0_0_256)))
    ![512, 512] S512x256.size (k0_pay1 (VecWindow.window xo ![512, 512] S512x256.size inb_S1024x1024_S512x256_512_512)
      (VecWindow.window (k0_pay4 x0) ![512, 0] S512x2048.size inb_S1024x2048_S512x2048_512_0)
      (VecWindow.window x0 ![0, 0, 512] S1x2048x256.size inb_S1x2048x1024_S1x2048x256_0_0_512)))
    ![768, 768] S256x256.size (k0_pay2 (VecWindow.window xo ![768, 768] S256x256.size inb_S1024x1024_S256x256_768_768)
      (VecWindow.window (k0_pay4 x0) ![768, 0] S256x2048.size inb_S1024x2048_S256x2048_768_0)
      (VecWindow.window x0 ![0, 0, 768] S1x2048x256.size inb_S1x2048x1024_S1x2048x256_0_0_768))

/-- A load of a unit-stride rectangle reads that window of what the buffer holds. -/
theorem readAt_window {e : EltTy} {s : Shape} (v : View sig .tc .vmem s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

/-- A load of a unit-stride rectangle out of a list of stores reads that window of what the stores leave. -/
theorem readCov_window {e : EltTy} {s : Shape} (v : View sig .tc .vmem s e) (L : List (View.Piece (Elt F) s e)) {off size : Fin s.rank → ℕ}
    (inb : ∀ a, off a + size a ≤ s.size a) :
    v.readCov L (Rect.unit off size inb).toLoadRect
      = VecWindow.window (v.read (Elt F) (v.writes (Elt F) v.junk L)) off size inb := rfl

/-- Storing the whole `1024×2048` scratch leaves the payload. -/
theorem read_whole_xt (v : View sig .tc .vmem S1024x2048 .bf16) (f : v.ty.Contents (Elt F)) (w : Vec F S1024x2048 .bf16) (L : List (View.Piece (Elt F) S1024x2048 .bf16)) :
    v.read (Elt F) (v.writes (Elt F) f (⟨Rect.unit (s := S1024x2048) ![0, 0] ![1024, 2048] inb_S1024x2048_S1024x2048_0_0, w⟩ :: L)) = w :=
  View.read_writes_full v f inb_S1024x2048_S1024x2048_0_0 w L

/-- Storing the whole `1024×1024` accumulator leaves the payload. -/
theorem read_whole_h (v : View sig .tc .vmem S1024x1024 .f32) (f : v.ty.Contents (Elt F)) (w : Vec F S1024x1024 .f32) (L : List (View.Piece (Elt F) S1024x1024 .f32)) :
    v.read (Elt F) (v.writes (Elt F) f (⟨Rect.unit (s := S1024x1024) ![0, 0] ![1024, 1024] inb_S1024x1024_S1024x1024_0_0, w⟩ :: L)) = w :=
  View.read_writes_full v f inb_S1024x1024_S1024x1024_0_0 w L

/-- A store into the accumulator over earlier stores puts its payload over what those left. -/
theorem read_put_h (v : View sig .tc .vmem S1024x1024 .f32) (f : v.ty.Contents (Elt F)) {off size : Fin 2 → ℕ}
    (inb : ∀ a, off a + size a ≤ S1024x1024.size a) (w : (Rect.unit (s := S1024x1024) off size inb).shape.Idx → Elt F .f32)
    (L : List (View.Piece (Elt F) S1024x1024 .f32)) :
    v.read (Elt F) (v.writes (Elt F) f (⟨Rect.unit (s := S1024x1024) off size inb, w⟩ :: L))
      = VecWindow.put (v.read (Elt F) (v.writes (Elt F) f L)) off size w :=
  View.read_writes_cons_put v f inb w L rfl

/-- A window of the accumulator in columns apart from a put reads what was there before the put. -/
theorem window_put_h (x : Vec F S1024x1024 .f32) {off size off' size' : Fin 2 → ℕ} (inb' : ∀ a, off' a + size' a ≤ S1024x1024.size a)
    (w : ((a : Fin 2) → Fin (size a)) → Elt F .f32) (h : off' 1 + size' 1 ≤ off 1 ∨ off 1 + size 1 ≤ off' 1) :
    VecWindow.window (VecWindow.put x off size w) off' size' inb' = VecWindow.window x off' size' inb' :=
  VecWindow.window_put_of_disjoint x off size off' size' inb' w 1 h

/-- A put over the whole accumulator leaves the payload. -/
theorem put_whole_h (x w : Vec F S1024x1024 .f32) :
    VecWindow.put (s := S1024x1024) x ![0, 0] ![1024, 1024] w = w := by
  funext y
  have h : ∀ a : Fin 2, (![0, 0] : Fin 2 → ℕ) a ≤ (y a).val ∧ (y a).val < (![0, 0] : Fin 2 → ℕ) a + (![1024, 1024] : Fin 2 → ℕ) a :=
    Fin.forall_fin_two.mpr ⟨⟨Nat.zero_le _, by have := (y 0).isLt; simpa using this⟩, ⟨Nat.zero_le _, by have := (y 1).isLt; simpa using this⟩⟩
  exact (dif_pos h).trans (congrArg w (funext fun a => Fin.ext (by
    show (y a).val - (![0, 0] : Fin 2 → ℕ) a = (y a).val
    fin_cases a <;> rfl)))

/-- The window that is the whole token block is the token block. -/
theorem window_whole_x (x0 : Vec F S1x2048x1024 .bf16) :
    VecWindow.window (s := S1x2048x1024) x0 ![0, 0, 0] ![1, 2048, 1024] inb_S1x2048x1024_S1x2048x1024_0_0_0 = x0 :=
  funext fun y => congrArg x0 (funext fun a => Fin.ext (by
    show (![0, 0, 0] : Fin 3 → ℕ) a + 1 * (y a).val = (y a).val
    fin_cases a <;> simp))

set_option maxHeartbeats 2000000 in
/-- The body at a point after the first: from the token block and the accumulator to the accumulator after `step`. -/
theorem run_B (c : Dev nD) (i : grid0.Coords) (arg1 : Memref sig .tc .vmem S1x2048x1024 .bf16) (harg1 : arg1.IsWhole) (arg2 : Memref sig .tc .vmem S1024x1024 .f32) (harg2 : arg2.IsWhole) (arg3 : Memref sig .tc .vmem S1024x2048 .bf16) (harg3 : arg3.IsWhole) (hc0 : ¬cond0_0 i)
    (x0 : Vec F S1x2048x1024 .bf16) (xo1 : Vec F S1024x1024 .f32)
      (E : Set ℕ) (K : PUnit → sProp 𝕄) :
        iprop(owns (c : Thread nD τ) arg1 fullShare x0 ∗ owns (c : Thread nD τ) arg2 fullShare xo1 ∗ (∃ d, owns (c : Thread nD τ) arg3 fullShare d)
            ∗ (iprop(owns (c : Thread nD τ) arg1 fullShare x0 ∗ owns (c : Thread nD τ) arg2 fullShare (step x0 xo1) ∗ (∃ d, owns (c : Thread nD τ) arg3 fullShare d)) -∗ K ⟨⟩))
          ⊢ wp frame (wpE (defs₀ (F := F)) Variants.none c none) E (cc0_gram i arg1 harg1 arg2 harg2 arg3 harg3) K := by
    simp only [cc0_gram_eq_skeleton]; unfold cc0_gram_skel
    simp only [k0_part1_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr
      swap
      · iexact H1
      ipureintro
      sl_unfold_run_names
      simp only [read_put_h, readAt_window, readCov_window, read_whole_xt, hf0, hf1, View.writes_nil]
      rw [window_whole_x]
      rfl
    iexists _, _; isplitr; swap; · iexact HS0
    ipureintro; rfl

set_option maxHeartbeats 2000000 in
/-- The body at the first point: the accumulator is first set to zero, whatever it held. -/
theorem run_A (c : Dev nD) (i : grid0.Coords) (arg1 : Memref sig .tc .vmem S1x2048x1024 .bf16) (harg1 : arg1.IsWhole) (arg2 : Memref sig .tc .vmem S1024x1024 .f32) (harg2 : arg2.IsWhole) (arg3 : Memref sig .tc .vmem S1024x2048 .bf16) (harg3 : arg3.IsWhole) (hc0 : cond0_0 i)
    (x0 : Vec F S1x2048x1024 .bf16)
      (E : Set ℕ) (K : PUnit → sProp 𝕄) :
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (step x0 k0_pay3) ∗ (∃ d, owns (c : Thread nD τ) arg3 fullShare d)) -∗ K ⟨⟩))
          ⊢ wp frame (wpE (defs₀ (F := F)) Variants.none c none) E (cc0_gram i arg1 harg1 arg2 harg2 arg3 harg3) K := by
    simp only [cc0_gram_eq_skeleton]; unfold cc0_gram_skel
    simp only [k0_part1_eq_skeleton]
    unfold owns
    iintro ⟨⟨%f0, %hf0, H0⟩, ⟨%d1, %f1, -, H1⟩, ⟨%ds0, %fs0, -, HS0⟩, Hk⟩
    obtain rfl := harg1.eq_unread hf0
    sl_exec (disch := first | sl_exact hc0)
    sl_step
    iapply Hk
    isplitl [H0]
    · iexists _; isplitr; · ipureintro; exact harg1.read_unread _
      iexact H0
    isplitl [H1]
    · iexists _; isplitr
      swap
      · iexact H1
      ipureintro
      sl_unfold_run_names
      simp only [readAt_window, readCov_window, read_whole_xt, read_whole_h, hf0]
      rw [window_whole_x]
      simp only [read_put_h]
      rw [put_whole_h, put_whole_h]
      repeat (rw [window_put_h]; swap; · decide)
      rfl
    iexists _, _; isplitr; swap; · iexact HS0
    ipureintro; rfl

end Cert.Kernel.Gram
end
-- ==== Proof.GramRunKernel.lean ====
module

public import proofs.«01_k».proof.Proof.GramBodyKernel
public import Idealize.ShloMosaic.Lib.Claim
public import Idealize.ShloMosaic.Lib.Pipeline.Value

@[expose] public section

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first grid point and at no other. -/
theorem hcond0_0 : ∀ t : Fin cfg0.N, cond0_0 (grid0.coords t) ↔ t.val = 0 :=
  (fun t => by
    have ht : t.val < 96 := Nat.lt_of_lt_of_eq t.isLt N_0
    have e0 : (grid0.coords t 0).val = t.val / 1 % 96 := Pipeline.Grid.coords_val t 0 (by decide) rfl
    have e1 : (grid0.coords t 0).val = t.val := by omega
    simp only [cond0_0, e1]
    word_cmp
   : ∀ t : Fin grid0.N, cond0_0 (grid0.coords t) ↔ t.val = 0)

/-- The staging memref of the token block at point `t`, as the body is called with it. -/
abbrev ms0_0 (t : Fin cfg0.N) : Memref sig .tc .vmem S1x2048x1024 .bf16 := win0_0.stage (cfg0.slots t 0)
abbrev hs0_0 (t : Fin cfg0.N) : (ms0_0 t).IsWhole := hstage0_0 ((cfg0.slots t 0).cast nbuf0_0)
/-- The staging memref of the accumulator at point `t`. -/
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
/-- The scratch that holds the transposed token block. -/
abbrev scM0_0 : Memref sig .tc .vmem S1024x2048 .bf16 := Memref.whole cc0_scratch0

/-- The region's invariant: the scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The accumulator point by point -/

/-- What the accumulator holds after point `n`: `step` from zero at the first point, from the point before after that. -/
def accAfter (c : Dev nD) : (n : ℕ) → n < cfg0.N → Vec F S1024x1024 .f32
  | 0, hn => step (iblk m c 0 ⟨0, hn⟩) k0_pay3
  | n + 1, hn => step (iblk m c 0 ⟨n + 1, hn⟩) (accAfter c n (Nat.lt_of_succ_lt hn))

/-- The first point starts from zero. -/
theorem accAfter_first (c : Dev nD) (t : Fin cfg0.N) (h0 : t.val = 0) :
    accAfter m c t.val t.isLt = step (iblk m c 0 t) k0_pay3 := by
  obtain ⟨n, hn⟩ := t
  obtain rfl : n = 0 := h0
  rfl

/-- A later point starts from what the point before left. -/
theorem accAfter_later (c : Dev nD) (t : Fin cfg0.N) (h0 : ¬t.val = 0) :
    accAfter m c t.val t.isLt = step (iblk m c 0 t) (accAfter m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at point `t`, the token block in place and the accumulator at
`accAfter`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => accAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = accAfter m c t.val t.isLt := by dsimp only [dats]

/-- The token block's buffer holds its block when the body starts. -/
theorem before0_0 (c : Dev nD) (t : Fin cfg0.N) (d) : (dats m 0 c).before 0 t d = iblk m c 0 t :=
  before0_0_of m (dats m 0 c) (A_eq m c 0) (after0_0 m c) t d

/-- After the first point the accumulator's buffer holds, when the body starts, what the point before left. -/
theorem before0_1_later (c : Dev nD) (t : Fin cfg0.N) (h0 : ¬t.val = 0) (d) :
    (dats m 0 c).before 1 t d = accAfter m c (t.val - 1) (Nat.lt_of_le_of_lt (Nat.sub_le _ _) t.isLt) := by
  have hN : t.val < 96 := lt_of_lt_of_eq t.isLt (show cfg0.N = 96 from N_0)
  rw [Dat.before_out_kept _ 1 rfl t h0 (Bool.eq_false_iff.mpr fun h => by have := (flush0_1 _).mp h; dsimp only at this; omega)
    (fun _ => rfl) (fun _ _ => rfl)]
  dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point, by the case of its condition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  by_cases h0 : t.val = 0
  · rw [accAfter_first m c t h0]
    iintro ⟨⟨HS0, Hg⟩, Ho, ⟨%d0, H0⟩, ⟨%d1, H1⟩⟩
    iapply (run_A c (grid0.coords t) _ (hs0_0 t) _ (hs0_1 t) _ (Memref.isWhole_whole _) ((hcond0_0 t).mpr h0) (iblk m c 0 t) Set.univ _)
    isplitl [H0]; · iexact H0
    isplitl [H1]; · iexists _; iexact H1
    isplitl [HS0]; · iexact HS0
    iintro ⟨H0, H1, HS0⟩
    isplitl [HS0 Hg]
    · isplitl [HS0]; · iexact HS0
      iexact Hg
    isplitl [Ho]; · iexact Ho
    isplitl [H0]; · iexact H0
    iexact H1
  · rw [accAfter_later m c t h0]
    simp only [before0_1_later m c t h0]
    iintro ⟨⟨HS0, Hg⟩, Ho, ⟨%d0, H0⟩, ⟨%d1, H1⟩⟩
    iapply (run_B c (grid0.coords t) _ (hs0_0 t) _ (hs0_1 t) _ (Memref.isWhole_whole _) (fun h => h0 ((hcond0_0 t).mp h)) (iblk m c 0 t) _ Set.univ _)
    isplitl [H0]; · iexact H0
    isplitl [H1]; · iexact H1
    isplitl [HS0]; · iexact HS0
    iintro ⟨H0, H1, HS0⟩
    isplitl [HS0 Hg]
    · isplitl [HS0]; · iexact HS0
      iexact Hg
    isplitl [Ho]; · iexact Ho
    isplitl [H0]; · iexact H0
    iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole run: every array at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The tokens end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame claim: it ends, the tokens are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-- The only block the pipeline writes back is the whole accumulator after the last point: the result array. -/
theorem run_value : θ_run defs (onTc (τ := τ) (main (F := F))) ⟨m, fun _ => 0, ρ⟩ fun r => ∀ c : Dev nD,
      r.2.mem ((c : Thread nD τ).loc main_v0) = (dats m 0 c).arrAt 1 cfg0.N
      ∧ r.2.mem ((c : Thread nD τ).loc main_arg0) = m ((c : Thread nD τ).loc main_arg0) :=
  (θ_run defs _ _).mono (fun r h c => ⟨(h c).1 1,
      ((h c).1 0).trans (((dats m 0 c).arrAt_in 0 rfl _).trans ((A_eq m c 0).trans (V_main_arg0 m c)))⟩)
    (run_main m ρ)

end Cert.Kernel.Gram
end
-- ==== Proof.GramBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if`: the point is the first of the grid. -/
abbrev cond0_0 (i : grid0.Coords) : Prop := (Scalar.cmpi .ne (Scalar.extui (Scalar.cmpi .eq (BitVec.ofNat 32 (i 0).val) 0#32)) 0#32) = 1#1

/-- What one grid point does to the accumulator `xo`, on the token block `x0`: the four column blocks, each from its
diagonal down, have the matching products added; everything above the diagonal blocks stays. -/
def step (x0 : Vec F S1x2048x1024 .bf16) (xo : Vec F S1024x1024 .f32) : Vec F S1024x1024 .f32 :=
  VecWindow.put (VecWindow.put (VecWindow.put (VecWindow.put xo
    ![0, 0] S1024x256.size (k0_pay5 (VecWindow.window xo ![0, 0] S1024x256.size inb_S1024x1024_S1024x256_0_0)
      (VecWindow.window (k0_pay4 x0) ![0, 0] S1024x2048.size inb_S1024x2048_S1024x2048_0_0)
      (VecWindow.window x0 ![0, 0, 0] S1x2048x256.size inb_S1x2048x1024_S1x2048x256_0_0_0)))
    ![256, 256] S768x256.size (k0_pay6 (VecWindow.window xo ![256, 256] S768x256.size inb_S1024x1024_S768x256_256_256)
      (VecWindow.window (k0_pay4 x0) ![256, 0] S768x2048.size inb_S1024x2048_S768x2048_256_0)
      (VecWindow.window x0 ![0, 0, 256] S1x2048x256.size inb_S1x2048x1024_S1x2048x256_0_0_256)))
    ![512, 512] S512x256.size (k0_pay1 (VecWindow.window xo ![512, 512] S512x256.size inb_S1024x1024_S512x256_512_512)
      (VecWindow.window (k0_pay4 x0) ![512, 0] S512x2048.size inb_S1024x2048_S512x2048_512_0)
      (VecWindow.window x0 ![0, 0, 512] S1x2048x256.size inb_S1x2048x1024_S1x2048x256_0_0_512)))
    ![768, 768] S256x256.size (k0_pay2 (VecWindow.window xo ![768, 768] S256x256.size inb_S1024x1024_S256x256_768_768)
      (VecWindow.window (k0_pay4 x0) ![768, 0] S256x2048.size inb_S1024x2048_S256x2048_768_0)
      (VecWindow.window x0 ![0, 0, 768] S1x2048x256.size inb_S1x2048x1024_S1x2048x256_0_0_768))

/-- A load of a unit-stride rectangle reads that window of what the buffer holds. -/
theorem readAt_window {e : EltTy} {s : Shape} (v : View sig .tc .vmem s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

/-- A load of a unit-stride rectangle out of a list of stores reads that window of what the stores leave. -/
theorem readCov_window {e : EltTy} {s : Shape} (v : View sig .tc .vmem s e) (L : List (View.Piece (Elt F) s e)) {off size : Fin s.rank → ℕ}
    (inb : ∀ a, off a + size a ≤ s.size a) :
    v.readCov L (Rect.unit off size inb).toLoadRect
      = VecWindow.window (v.read (Elt F) (v.writes (Elt F) v.junk L)) off size inb := rfl

/-- Storing the whole `1024×2048` scratch leaves the payload. -/
theorem read_whole_xt (v : View sig .tc .vmem S1024x2048 .bf16) (f : v.ty.Contents (Elt F)) (w : Vec F S1024x2048 .bf16) (L : List (View.Piece (Elt F) S1024x2048 .bf16)) :
    v.read (Elt F) (v.writes (Elt F) f (⟨Rect.unit (s := S1024x2048) ![0, 0] ![1024, 2048] inb_S1024x2048_S1024x2048_0_0, w⟩ :: L)) = w :=
  View.read_writes_full v f inb_S1024x2048_S1024x2048_0_0 w L

/-- Storing the whole `1024×1024` accumulator leaves the payload. -/
theorem read_whole_h (v : View sig .tc .vmem S1024x1024 .f32) (f : v.ty.Contents (Elt F)) (w : Vec F S1024x1024 .f32) (L : List (View.Piece (Elt F) S1024x1024 .f32)) :
    v.read (Elt F) (v.writes (Elt F) f (⟨Rect.unit (s := S1024x1024) ![0, 0] ![1024, 1024] inb_S1024x1024_S1024x1024_0_0, w⟩ :: L)) = w :=
  View.read_writes_full v f inb_S1024x1024_S1024x1024_0_0 w L

/-- A store into the accumulator over earlier stores puts its payload over what those left. -/
theorem read_put_h (v : View sig .tc .vmem S1024x1024 .f32) (f : v.ty.Contents (Elt F)) {off size : Fin 2 → ℕ}
    (inb : ∀ a, off a + size a ≤ S1024x1024.size a) (w : (Rect.unit (s := S1024x1024) off size inb).shape.Idx → Elt F .f32)
    (L : List (View.Piece (Elt F) S1024x1024 .f32)) :
    v.read (Elt F) (v.writes (Elt F) f (⟨Rect.unit (s := S1024x1024) off size inb, w⟩ :: L))
      = VecWindow.put (v.read (Elt F) (v.writes (Elt F) f L)) off size w :=
  View.read_writes_cons_put v f inb w L rfl

/-- A window of the accumulator in columns apart from a put reads what was there before the put. -/
theorem window_put_h (x : Vec F S1024x1024 .f32) {off size off' size' : Fin 2 → ℕ} (inb' : ∀ a, off' a + size' a ≤ S1024x1024.size a)
    (w : ((a : Fin 2) → Fin (size a)) → Elt F .f32) (h : off' 1 + size' 1 ≤ off 1 ∨ off 1 + size 1 ≤ off' 1) :
    VecWindow.window (VecWindow.put x off size w) off' size' inb' = VecWindow.window x off' size' inb' :=
  VecWindow.window_put_of_disjoint x off size off' size' inb' w 1 h

/-- A put over the whole accumulator leaves the payload. -/
theorem put_whole_h (x w : Vec F S1024x1024 .f32) :
    VecWindow.put (s := S1024x1024) x ![0, 0] ![1024, 1024] w = w := by
  funext y
  have h : ∀ a : Fin 2, (![0, 0] : Fin 2 → ℕ) a ≤ (y a).val ∧ (y a).val < (![0, 0] : Fin 2 → ℕ) a + (![1024, 1024] : Fin 2 → ℕ) a :=
    Fin.forall_fin_two.mpr ⟨⟨Nat.zero_le _, by have := (y 0).isLt; simpa using this⟩, ⟨Nat.zero_le _, by have := (y 1).isLt; simpa using this⟩⟩
  exact (dif_pos h).trans (congrArg w (funext fun a => Fin.ext (by
    show (y a).val - (![0, 0] : Fin 2 → ℕ) a = (y a).val
    fin_cases a <;> rfl)))

/-- The window that is the whole token block is the token block. -/
theorem window_whole_x (x0 : Vec F S1x2048x1024 .bf16) :
    VecWindow.window (s := S1x2048x1024) x0 ![0, 0, 0] ![1, 2048, 1024] inb_S1x2048x1024_S1x2048x1024_0_0_0 = x0 :=
  funext fun y => congrArg x0 (funext fun a => Fin.ext (by
    show (![0, 0, 0] : Fin 3 → ℕ) a + 1 * (y a).val = (y a).val
    fin_cases a <;> simp))

set_option maxHeartbeats 2000000 in
/-- The body at a point after the first: from the token block and the accumulator to the accumulator after `step`. -/
theorem run_B (c : Dev nD) (i : grid0.Coords) (arg1 : Memref sig .tc .vmem S1x2048x1024 .bf16) (harg1 : arg1.IsWhole) (arg2 : Memref sig .tc .vmem S1024x1024 .f32) (harg2 : arg2.IsWhole) (arg3 : Memref sig .tc .vmem S1024x2048 .bf16) (harg3 : arg3.IsWhole) (hc0 : ¬cond0_0 i)
    (x0 : Vec F S1x2048x1024 .bf16) (xo1 : Vec F S1024x1024 .f32)
      (E : Set ℕ) (K : PUnit → sProp 𝕄) :
        iprop(owns (c : Thread nD τ) arg1 fullShare x0 ∗ owns (c : Thread nD τ) arg2 fullShare xo1 ∗ (∃ d, owns (c : Thread nD τ) arg3 fullShare d)
            ∗ (iprop(owns (c : Thread nD τ) arg1 fullShare x0 ∗ owns (c : Thread nD τ) arg2 fullShare (step x0 xo1) ∗ (∃ d, owns (c : Thread nD τ) arg3 fullShare d)) -∗ K ⟨⟩))
          ⊢ wp frame (wpE (defs₀ (F := F)) Variants.none c none) E (cc0_gram i arg1 harg1 arg2 harg2 arg3 harg3) K := by
    simp only [cc0_gram_eq_skeleton]; unfold cc0_gram_skel
    simp only [k0_part1_eq_skeleton]
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0)
    sl_step
    iapply Hk
    isplitl [H0]
    · iexists _; isplitr; · ipureintro; exact harg1.read_unread _
      iexact H0
    isplitl [H1]
    · iexists _; isplitr
      swap
      · iexact H1
      ipureintro
      sl_unfold_run_names
      simp only [read_put_h, readAt_window, readCov_window, read_whole_xt, hf0, hf1, View.writes_nil]
      rw [window_whole_x]
      rfl
    iexists _, _; isplitr; swap; · iexact HS0
    ipureintro; rfl

set_option maxHeartbeats 2000000 in
/-- The body at the first point: the accumulator is first set to zero, whatever it held. -/
theorem run_A (c : Dev nD) (i : grid0.Coords) (arg1 : Memref sig .tc .vmem S1x2048x1024 .bf16) (harg1 : arg1.IsWhole) (arg2 : Memref sig .tc .vmem S1024x1024 .f32) (harg2 : arg2.IsWhole) (arg3 : Memref sig .tc .vmem S1024x2048 .bf16) (harg3 : arg3.IsWhole) (hc0 : cond0_0 i)
    (x0 : Vec F S1x2048x1024 .bf16)
      (E : Set ℕ) (K : PUnit → sProp 𝕄) :
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (step x0 k0_pay3) ∗ (∃ d, owns (c : Thread nD τ) arg3 fullShare d)) -∗ K ⟨⟩))
          ⊢ wp frame (wpE (defs₀ (F := F)) Variants.none c none) E (cc0_gram i arg1 harg1 arg2 harg2 arg3 harg3) K := by
    simp only [cc0_gram_eq_skeleton]; unfold cc0_gram_skel
    simp only [k0_part1_eq_skeleton]
    unfold owns
    iintro ⟨⟨%f0, %hf0, H0⟩, ⟨%d1, %f1, -, H1⟩, ⟨%ds0, %fs0, -, HS0⟩, Hk⟩
    obtain rfl := harg1.eq_unread hf0
    sl_exec (disch := first | sl_exact hc0)
    sl_step
    iapply Hk
    isplitl [H0]
    · iexists _; isplitr; · ipureintro; exact harg1.read_unread _
      iexact H0
    isplitl [H1]
    · iexists _; isplitr
      swap
      · iexact H1
      ipureintro
      sl_unfold_run_names
      simp only [readAt_window, readCov_window, read_whole_xt, read_whole_h, hf0]
      rw [window_whole_x]
      simp only [read_put_h]
      rw [put_whole_h, put_whole_h]
      repeat (rw [window_put_h]; swap; · decide)
      rfl
    iexists _, _; isplitr; swap; · iexact HS0
    ipureintro; rfl

end Cert.KernelIdeal.Gram
end
-- ==== Proof.GramRun.lean ====
module

public import proofs.«01_k».proof.Proof.GramBody
public import Idealize.ShloMosaic.Lib.Claim
public import Idealize.ShloMosaic.Lib.Pipeline.Value

@[expose] public section

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition holds at the first grid point and at no other. -/
theorem hcond0_0 : ∀ t : Fin cfg0.N, cond0_0 (grid0.coords t) ↔ t.val = 0 :=
  (fun t => by
    have ht : t.val < 96 := Nat.lt_of_lt_of_eq t.isLt N_0
    have e0 : (grid0.coords t 0).val = t.val / 1 % 96 := Pipeline.Grid.coords_val t 0 (by decide) rfl
    have e1 : (grid0.coords t 0).val = t.val := by omega
    simp only [cond0_0, e1]
    word_cmp
   : ∀ t : Fin grid0.N, cond0_0 (grid0.coords t) ↔ t.val = 0)

/-- The staging memref of the token block at point `t`, as the body is called with it. -/
abbrev ms0_0 (t : Fin cfg0.N) : Memref sig .tc .vmem S1x2048x1024 .bf16 := win0_0.stage (cfg0.slots t 0)
abbrev hs0_0 (t : Fin cfg0.N) : (ms0_0 t).IsWhole := hstage0_0 ((cfg0.slots t 0).cast nbuf0_0)
/-- The staging memref of the accumulator at point `t`. -/
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
/-- The scratch that holds the transposed token block. -/
abbrev scM0_0 : Memref sig .tc .vmem S1024x2048 .bf16 := Memref.whole cc0_scratch0

/-- The region's invariant: the scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The accumulator point by point -/

/-- What the accumulator holds after point `n`: `step` from zero at the first point, from the point before after that. -/
def accAfter (c : Dev nD) : (n : ℕ) → n < cfg0.N → Vec F S1024x1024 .f32
  | 0, hn => step (iblk m c 0 ⟨0, hn⟩) k0_pay3
  | n + 1, hn => step (iblk m c 0 ⟨n + 1, hn⟩) (accAfter c n (Nat.lt_of_succ_lt hn))

/-- The first point starts from zero. -/
theorem accAfter_first (c : Dev nD) (t : Fin cfg0.N) (h0 : t.val = 0) :
    accAfter m c t.val t.isLt = step (iblk m c 0 t) k0_pay3 := by
  obtain ⟨n, hn⟩ := t
  obtain rfl : n = 0 := h0
  rfl

/-- A later point starts from what the point before left. -/
theorem accAfter_later (c : Dev nD) (t : Fin cfg0.N) (h0 : ¬t.val = 0) :
    accAfter m c t.val t.isLt = step (iblk m c 0 t) (accAfter m c (t.val - 1) (Nat.lt_of_le_of_lt (Nat.sub_le _ _) t.isLt)) := by
  obtain ⟨n, hn⟩ := t
  cases n with
  | zero => exact absurd rfl h0
  | succ n => rfl

/-! ## The pipeline's proof data -/

/-- The arrays as the region finds them; after the body at point `t`, the token block in place and the accumulator at
`accAfter`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => accAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = accAfter m c t.val t.isLt := by dsimp only [dats]

/-- The token block's buffer holds its block when the body starts. -/
theorem before0_0 (c : Dev nD) (t : Fin cfg0.N) (d) : (dats m 0 c).before 0 t d = iblk m c 0 t :=
  before0_0_of m (dats m 0 c) (A_eq m c 0) (after0_0 m c) t d

/-- After the first point the accumulator's buffer holds, when the body starts, what the point before left. -/
theorem before0_1_later (c : Dev nD) (t : Fin cfg0.N) (h0 : ¬t.val = 0) (d) :
    (dats m 0 c).before 1 t d = accAfter m c (t.val - 1) (Nat.lt_of_le_of_lt (Nat.sub_le _ _) t.isLt) := by
  have hN : t.val < 96 := lt_of_lt_of_eq t.isLt (show cfg0.N = 96 from N_0)
  rw [Dat.before_out_kept _ 1 rfl t h0 (Bool.eq_false_iff.mpr fun h => by have := (flush0_1 _).mp h; dsimp only at this; omega)
    (fun _ => rfl) (fun _ _ => rfl)]
  dsimp only [dats]

/-! ## The body at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

set_option maxHeartbeats 800000 in
/-- The body at any point, by the case of its condition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  by_cases h0 : t.val = 0
  · rw [accAfter_first m c t h0]
    iintro ⟨⟨HS0, Hg⟩, Ho, ⟨%d0, H0⟩, ⟨%d1, H1⟩⟩
    iapply (run_A c (grid0.coords t) _ (hs0_0 t) _ (hs0_1 t) _ (Memref.isWhole_whole _) ((hcond0_0 t).mpr h0) (iblk m c 0 t) Set.univ _)
    isplitl [H0]; · iexact H0
    isplitl [H1]; · iexists _; iexact H1
    isplitl [HS0]; · iexact HS0
    iintro ⟨H0, H1, HS0⟩
    isplitl [HS0 Hg]
    · isplitl [HS0]; · iexact HS0
      iexact Hg
    isplitl [Ho]; · iexact Ho
    isplitl [H0]; · iexact H0
    iexact H1
  · rw [accAfter_later m c t h0]
    simp only [before0_1_later m c t h0]
    iintro ⟨⟨HS0, Hg⟩, Ho, ⟨%d0, H0⟩, ⟨%d1, H1⟩⟩
    iapply (run_B c (grid0.coords t) _ (hs0_0 t) _ (hs0_1 t) _ (Memref.isWhole_whole _) (fun h => h0 ((hcond0_0 t).mp h)) (iblk m c 0 t) _ Set.univ _)
    isplitl [H0]; · iexact H0
    isplitl [H1]; · iexact H1
    isplitl [HS0]; · iexact HS0
    iintro ⟨H0, H1, HS0⟩
    isplitl [HS0 Hg]
    · isplitl [HS0]; · iexact HS0
      iexact Hg
    isplitl [Ho]; · iexact Ho
    isplitl [H0]; · iexact H0
    iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole run: every array at what the proof data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The tokens end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The frame claim: it ends, the tokens are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-- The only block the pipeline writes back is the whole accumulator after the last point: the result array. -/
theorem run_value : θ_run defs (onTc (τ := τ) (main (F := F))) ⟨m, fun _ => 0, ρ⟩ fun r => ∀ c : Dev nD,
      r.2.mem ((c : Thread nD τ).loc main_v0) = (dats m 0 c).arrAt 1 cfg0.N
      ∧ r.2.mem ((c : Thread nD τ).loc main_arg0) = m ((c : Thread nD τ).loc main_arg0) :=
  (θ_run defs _ _).mono (fun r h c => ⟨(h c).1 1,
      ((h c).1 0).trans (((dats m 0 c).arrAt_in 0 rfl _).trans ((A_eq m c 0).trans (V_main_arg0 m c)))⟩)
    (run_main m ρ)

end Cert.KernelIdeal.Gram
end
-- ==== Proof.GramStep.lean ====
module

public import proofs.«01_k».proof.Proof.GramBody
public import Idealize.ShloMosaic.Lib.Pointwise

@[expose] public section

set_option maxRecDepth 16384

noncomputable section

namespace Cert.KernelIdeal.Gram

open Cert.KernelIdeal Cert.KernelIdeal.Gen
open Idealize.ShloMosaic Idealize.ShloMosaic.TcCoe

/-- What one token block adds to entry `(i, j)` of the Gram matrix. -/
def gramTerm (x0 : Vec Ideal S1x2048x1024 .bf16) (i j : Fin 1024) : EReal :=
  ∑ s : Fin 2048, x0 (ix3 0 s i) * x0 (ix3 0 s j)

/-! ## The four payloads at an index -/

theorem pay5_apply (a : Vec Ideal S1024x256 .f32) (b : Vec Ideal S1024x2048 .bf16) (c : Vec Ideal S1x2048x256 .bf16) (i : Fin 1024) (j : Fin 256) :
    k0_pay5 a b c (ix2 i j) = a (ix2 i j) + ∑ s : Fin 2048, b (ix2 i s) * c (ix3 0 s j) := by
  pointwise [k0_pay5]

theorem pay6_apply (a : Vec Ideal S768x256 .f32) (b : Vec Ideal S768x2048 .bf16) (c : Vec Ideal S1x2048x256 .bf16) (i : Fin 768) (j : Fin 256) :
    k0_pay6 a b c (ix2 i j) = a (ix2 i j) + ∑ s : Fin 2048, b (ix2 i s) * c (ix3 0 s j) := by
  pointwise [k0_pay6]

theorem pay1_apply (a : Vec Ideal S512x256 .f32) (b : Vec Ideal S512x2048 .bf16) (c : Vec Ideal S1x2048x256 .bf16) (i : Fin 512) (j : Fin 256) :
    k0_pay1 a b c (ix2 i j) = a (ix2 i j) + ∑ s : Fin 2048, b (ix2 i s) * c (ix3 0 s j) := by
  pointwise [k0_pay1]

theorem pay2_apply (a : Vec Ideal S256x256 .f32) (b : Vec Ideal S256x2048 .bf16) (c : Vec Ideal S1x2048x256 .bf16) (i : Fin 256) (j : Fin 256) :
    k0_pay2 a b c (ix2 i j) = a (ix2 i j) + ∑ s : Fin 2048, b (ix2 i s) * c (ix3 0 s j) := by
  pointwise [k0_pay2]

/-- The scratch holds the transposed token block. -/
theorem pay4_apply (x0 : Vec Ideal S1x2048x1024 .bf16) (i : Fin 1024) (s : Fin 2048) :
    k0_pay4 x0 (ix2 i s) = x0 (ix3 0 s i) := by
  pointwise [k0_pay4]

/-- The accumulator starts at zero. -/
theorem pay3_apply (y : S1024x1024.Idx) : k0_pay3 (F := Ideal) y = 0 := by
  pointwise [k0_pay3]

/-! ## Windows at an index -/

theorem window2_apply {R C : ℕ} {α : Type} (x : (⟨2, ![R, C]⟩ : Shape).Idx → α) (o p h w : ℕ)
    (inb : ∀ a, (![o, p] : Fin 2 → ℕ) a + (![h, w] : Fin 2 → ℕ) a ≤ (⟨2, ![R, C]⟩ : Shape).size a) (i : Fin h) (j : Fin w) (i' : Fin R) (j' : Fin C)
    (hi : i'.val = o + i.val) (hj : j'.val = p + j.val) :
    VecWindow.window (s := ⟨2, ![R, C]⟩) x ![o, p] ![h, w] inb (ix2 i j) = x (ix2 i' j') := by
  refine congrArg x (funext fun a => Fin.ext ?_)
  fin_cases a
  · show o + 1 * i.val = i'.val; omega
  · show p + 1 * j.val = j'.val; omega

theorem window3_apply {N R C : ℕ} {α : Type} (x : (⟨3, ![N, R, C]⟩ : Shape).Idx → α) (p w : ℕ)
    (inb : ∀ a, (![0, 0, p] : Fin 3 → ℕ) a + (![N, R, w] : Fin 3 → ℕ) a ≤ (⟨3, ![N, R, C]⟩ : Shape).size a) (n : Fin N) (i : Fin R) (j : Fin w) (j' : Fin C)
    (hj : j'.val = p + j.val) :
    VecWindow.window (s := ⟨3, ![N, R, C]⟩) x ![0, 0, p] ![N, R, w] inb (ix3 n i j) = x (ix3 n i j') := by
  refine congrArg x (funext fun a => Fin.ext ?_)
  fin_cases a
  · show 0 + 1 * n.val = n.val; omega
  · show 0 + 1 * i.val = i.val; omega
  · show p + 1 * j.val = j'.val; omega

/-- A put read inside its window. -/
theorem put2_hit {R C : ℕ} {α : Type} (x : (⟨2, ![R, C]⟩ : Shape).Idx → α) (o p h w : ℕ)
    (v : (⟨2, ![h, w]⟩ : Shape).Idx → α) (i : Fin h) (j : Fin w) (i' : Fin R) (j' : Fin C)
    (hi : i'.val = o + i.val) (hj : j'.val = p + j.val) :
    VecWindow.put (s := ⟨2, ![R, C]⟩) x ![o, p] ![h, w] v (ix2 i' j') = v (ix2 i j) := by
  have hm : ∀ a : Fin 2, (![o, p] : Fin 2 → ℕ) a ≤ ((ix2 i' j' : (⟨2, ![R, C]⟩ : Shape).Idx) a).val ∧ ((ix2 i' j' : (⟨2, ![R, C]⟩ : Shape).Idx) a).val < (![o, p] : Fin 2 → ℕ) a + (![h, w] : Fin 2 → ℕ) a :=
    Fin.forall_fin_two.mpr ⟨by show o ≤ i'.val ∧ i'.val < o + h; omega, by show p ≤ j'.val ∧ j'.val < p + w; omega⟩
  refine (dif_pos hm).trans (congrArg v (funext fun a => Fin.ext ?_))
  fin_cases a
  · show i'.val - o = i.val; omega
  · show j'.val - p = j.val; omega

/-- A put read outside its window. -/
theorem put2_miss {R C : ℕ} {α : Type} (x : (⟨2, ![R, C]⟩ : Shape).Idx → α) (o p h w : ℕ)
    (v : (⟨2, ![h, w]⟩ : Shape).Idx → α) (i' : Fin R) (j' : Fin C)
    (hm : ¬((o ≤ i'.val ∧ i'.val < o + h) ∧ (p ≤ j'.val ∧ j'.val < p + w))) :
    VecWindow.put (s := ⟨2, ![R, C]⟩) x ![o, p] ![h, w] v (ix2 i' j') = x (ix2 i' j') :=
  dif_neg fun hall => hm ⟨hall 0, hall 1⟩

/-! ## One step at an index -/

/-- One step adds the token block's term at the entries whose 256-row block is at or below their 256-column block, and
leaves the others. -/
theorem step_apply (x0 : Vec Ideal S1x2048x1024 .bf16) (xo : Vec Ideal S1024x1024 .f32) (i j : Fin 1024) :
    step x0 xo (ix2 i j) = if j.val / 256 ≤ i.val / 256 then xo (ix2 i j) + gramTerm x0 i j else xo (ix2 i j) := by
  have hi := i.isLt
  have hj := j.isLt
  have key : ∀ (o h : ℕ) (ib : i.val = o + (i.val - o)) (jb : j.val = o + (j.val - o)) (hh : i.val - o < h) (hw : j.val - o < 256)
      (inb) (inbx) (inbc),
      VecWindow.window (s := ⟨2, ![1024, 1024]⟩) xo ![o, o] ![h, 256] inb (ix2 ⟨i.val - o, hh⟩ ⟨j.val - o, hw⟩)
        + ∑ s : Fin 2048, VecWindow.window (s := ⟨2, ![1024, 2048]⟩) (k0_pay4 x0) ![o, 0] ![h, 2048] inbx (ix2 ⟨i.val - o, hh⟩ s)
          * VecWindow.window (s := ⟨3, ![1, 2048, 1024]⟩) x0 ![0, 0, o] ![1, 2048, 256] inbc (ix3 0 s ⟨j.val - o, hw⟩)
      = xo (ix2 i j) + gramTerm x0 i j := by
    intro o h ib jb hh hw inb inbx inbc
    rw [window2_apply xo o o h 256 inb _ _ i j ib jb, gramTerm]
    refine congrArg (xo (ix2 i j) + ·) (Finset.sum_congr rfl fun s _ => ?_)
    rw [window2_apply (k0_pay4 x0) o 0 h 2048 inbx _ s i s ib (Nat.zero_add _).symm, window3_apply x0 o 256 inbc 0 s _ j jb,
      pay4_apply]
  unfold step
  by_cases h3 : 768 ≤ j.val
  · by_cases hr : 768 ≤ i.val
    · rw [if_pos (by omega)]
      refine (put2_hit _ 768 768 256 256 _ ⟨i.val - 768, by omega⟩ ⟨j.val - 768, by omega⟩ i j (by simp only; omega) (by simp only; omega)).trans ?_
      rw [pay2_apply]
      exact key 768 256 (by omega) (by omega) (by omega) (by omega) _ _ _
    · rw [if_neg (by omega)]
      refine (put2_miss _ 768 768 256 256 _ i j (by omega)).trans ?_
      refine (put2_miss _ 512 512 512 256 _ i j (by omega)).trans ?_
      refine (put2_miss _ 256 256 768 256 _ i j (by omega)).trans ?_
      exact put2_miss _ 0 0 1024 256 _ i j (by omega)
  · refine (put2_miss _ 768 768 256 256 _ i j (by omega)).trans ?_
    by_cases h2 : 512 ≤ j.val
    · by_cases hr : 512 ≤ i.val
      · rw [if_pos (by omega)]
        refine (put2_hit _ 512 512 512 256 _ ⟨i.val - 512, by omega⟩ ⟨j.val - 512, by omega⟩ i j (by simp only; omega) (by simp only; omega)).trans ?_
        rw [pay1_apply]
        exact key 512 512 (by omega) (by omega) (by omega) (by omega) _ _ _
      · rw [if_neg (by omega)]
        refine (put2_miss _ 512 512 512 256 _ i j (by omega)).trans ?_
        refine (put2_miss _ 256 256 768 256 _ i j (by omega)).trans ?_
        exact put2_miss _ 0 0 1024 256 _ i j (by omega)
    · refine (put2_miss _ 512 512 512 256 _ i j (by omega)).trans ?_
      by_cases h1 : 256 ≤ j.val
      · by_cases hr : 256 ≤ i.val
        · rw [if_pos (by omega)]
          refine (put2_hit _ 256 256 768 256 _ ⟨i.val - 256, by omega⟩ ⟨j.val - 256, by omega⟩ i j (by simp only; omega) (by simp only; omega)).trans ?_
          rw [pay6_apply]
          exact key 256 768 (by omega) (by omega) (by omega) (by omega) _ _ _
        · rw [if_neg (by omega)]
          refine (put2_miss _ 256 256 768 256 _ i j (by omega)).trans ?_
          exact put2_miss _ 0 0 1024 256 _ i j (by omega)
      · refine (put2_miss _ 256 256 768 256 _ i j (by omega)).trans ?_
        rw [if_pos (by omega)]
        refine (put2_hit _ 0 0 1024 256 _ ⟨i.val - 0, by omega⟩ ⟨j.val - 0, by omega⟩ i j (by simp only; omega) (by simp only; omega)).trans ?_
        rw [pay5_apply]
        exact key 0 1024 (by omega) (by omega) (by omega) (by omega) _ _ _

end Cert.KernelIdeal.Gram
end
-- ==== Proof.GramValue.lean ====
module

public import proofs.«01_k».proof.Proof.GramRun
public import proofs.«01_k».proof.Proof.GramStep
public import Idealize.ShloMosaic.Lib.Pipeline.ValueKit

@[expose] public section

set_option maxRecDepth 16384

noncomputable section

namespace Cert.KernelIdeal.Gram

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The Gram matrix of the tokens `X` (96 blocks of 2048 tokens, 1024 channels), in the 256-blocks on and under the
diagonal; zero in the blocks above it. -/
def gramOf (X : (⟨3, ![96, 2048, 1024]⟩ : Shape).Idx → EReal) : (⟨2, ![1024, 1024]⟩ : Shape).Idx → EReal :=
  fun y => if (y 1).val / 256 ≤ (y 0).val / 256 then ∑ b : Fin 96, ∑ s : Fin 2048, X (ix3 b s (y 0)) * X (ix3 b s (y 1)) else 0

/-- Every entry of the whole product, those in the blocks above the diagonal too, is an entry of `gramOf`: its own, or
that of the mirrored place. -/
theorem whole_product (X : (⟨3, ![96, 2048, 1024]⟩ : Shape).Idx → EReal) (i j : Fin 1024) :
    ∑ b : Fin 96, ∑ s : Fin 2048, X (ix3 b s i) * X (ix3 b s j)
      = if j.val / 256 ≤ i.val / 256 then gramOf X (ix2 i j) else gramOf X (ix2 j i) := by
  by_cases h : j.val / 256 ≤ i.val / 256
  · rw [if_pos h]
    exact (if_pos h).symm
  · rw [if_neg h]
    refine Eq.trans ?_ (if_pos (show i.val / 256 ≤ j.val / 256 by omega)).symm
    exact Finset.sum_congr rfl fun b _ => Finset.sum_congr rfl fun s _ => mul_comm _ _

/-- The tokens on core `c`. -/
abbrev tok (c : Dev nD) : (⟨3, ![96, 2048, 1024]⟩ : Shape).Idx → EReal := m ((c : Thread nD τ).loc main_arg0)

/-- Point `t` takes token block `t`; -/
theorem index0_0 : ∀ t : Fin cfg0.N, win0_0.index t = ![t.val, 0, 0] :=
  (by decide +kernel : ∀ t : Fin grid0.N, win0_0.index t = ![t.val, 0, 0])

/-- and every point works on the one result block. -/
theorem index0_1 : ∀ t : Fin cfg0.N, win0_1.index t = ![0, 0] :=
  (by decide +kernel : ∀ t : Fin grid0.N, win0_1.index t = ![0, 0])

/-- The token block at point `t` is block `t` of the tokens. -/
theorem iblk_apply (c : Dev nD) (t : Fin cfg0.N) (ht : t.val < 96) (s : Fin 2048) (k : Fin 1024) :
    (iblk m c 0 t : Vec Ideal S1x2048x1024 .bf16) (ix3 0 s k) = tok m c (ix3 ⟨t.val, ht⟩ s k) := by
  blk_simp [iblk]
  refine congrArg (tok m c) ?_
  blk_ext [index0_0]

/-- What block `b` adds to entry `(i, j)`, zero past the last block. -/
def blockTerm (c : Dev nD) (i j : Fin 1024) (b : ℕ) : EReal :=
  if h : b < cfg0.N then gramTerm (iblk m c 0 ⟨b, h⟩) i j else 0

/-- After point `n` the accumulator holds the terms of the blocks up to `n`, on and under the diagonal blocks. -/
theorem accAfter_apply (c : Dev nD) (i j : Fin 1024) : ∀ (n : ℕ) (hn : n < cfg0.N),
    accAfter m c n hn (ix2 i j) = if j.val / 256 ≤ i.val / 256 then ∑ b ∈ Finset.range (n + 1), blockTerm m c i j b else 0
  | 0, hn => by
    rw [accAfter, step_apply, pay3_apply, zero_add, Finset.sum_range_one, blockTerm, dif_pos hn]
  | n + 1, hn => by
    rw [accAfter, step_apply, accAfter_apply c i j n _]
    by_cases h : j.val / 256 ≤ i.val / 256
    · rw [if_pos h, if_pos h, if_pos h, Finset.sum_range_succ _ (n + 1), blockTerm, dif_pos hn]
    · rw [if_neg h, if_neg h, if_neg h]

/-- The accumulator after the last point is the Gram matrix. -/
theorem accAfter_last (c : Dev nD) (n : ℕ) (hn : n < cfg0.N) (h95 : n = 95) (y : (⟨2, ![1024, 1024]⟩ : Shape).Idx) :
    (accAfter m c n hn : (⟨2, ![1024, 1024]⟩ : Shape).Idx → EReal) y = gramOf (tok m c) y := by
  subst h95
  obtain ⟨i, j, rfl⟩ : ∃ (i j : Fin 1024), y = ix2 i j := ⟨y 0, y 1, by funext a; fin_cases a <;> rfl⟩
  rw [accAfter_apply, gramOf]
  have hs : ∑ b ∈ Finset.range (95 + 1), blockTerm m c i j b
      = ∑ b : Fin 96, ∑ s : Fin 2048, tok m c (ix3 b s i)
          * tok m c (ix3 b s j) := by
    rw [Finset.sum_range]
    refine Finset.sum_congr rfl fun b _ => ?_
    have hb : b.val < cfg0.N := lt_of_lt_of_eq b.isLt (show 96 = cfg0.N from N_0.symm)
    rw [blockTerm, dif_pos hb, gramTerm]
    refine Finset.sum_congr rfl fun s _ => ?_
    rw [iblk_apply m c ⟨b.val, hb⟩ b.isLt s i, iblk_apply m c ⟨b.val, hb⟩ b.isLt s j]
  rw [hs]
  rfl

/-- The result array after the run is the Gram matrix of the tokens. -/
theorem arr_final (c : Dev nD) :
    (dats m 0 c).arrAt 1 cfg0.N = (gramOf (tok m c) : S1024x1024.Idx → EReal) := by
  refine (dats m 0 c).arrAt_eq_of_covers 1 _ (by decide +kernel) fun t hf y => ?_
  have ht : t.val = 95 := by
    have := (flush0_1 t).mp hf
    have hN : t.val < 96 := lt_of_lt_of_eq t.isLt (show cfg0.N = 96 from N_0)
    omega
  blk_simp
  rw [after0_1]
  refine (accAfter_last m c t.val t.isLt ht y).trans (congrArg (gramOf (tok m c)) ?_)
  blk_ext [index0_1]

end Cert.KernelIdeal.Gram
end
-- ==== Proof.RefValue.lean ====
module

public import proofs.«01_k».proof.Proof.Gen.ReferenceIdeal.Run
public import proofs.«01_k».proof.Proof.GramValue
public import Idealize.ShloMosaic.Lib.WordCmp

@[expose] public section

set_option maxRecDepth 16384

noncomputable section

namespace Cert.ReferenceIdeal.Gram

open Cert.ReferenceIdeal Cert.ReferenceIdeal.Gen
open Idealize.ShloMosaic Idealize.ShloMosaic.TcCoe

/-- The reference's product at an entry: the sum over the blocks and over the tokens of a block. -/
theorem dot_apply (X : FVec Ideal S96x2048x1024 .bf16) (i j : Fin 1024) :
    (Host.dotGeneral dot_S96x2048x1024_S96x2048x1024_S1024x1024_01_01_2_2_n_n none X X : FVec Ideal S1024x1024 .f32) (ix2 i j)
      = ∑ b : Fin 96, ∑ s : Fin 2048, X (ix3 b s i) * X (ix3 b s j) := by
  simp only [pointwise]
  exact zero_add _

/-- An arithmetic shift by 8 of a small index word is the word of the quotient by 256. -/
theorem shift8 (i : ℕ) (hi : i < 1024) :
    IntOp.shrsi ArithUnit.host (BitVec.ofNat 32 i) 8#32 = BitVec.ofNat 32 (i / 256) := by
  have hm : (BitVec.ofNat 32 i).msb = false := by
    rw [BitVec.msb_eq_false_iff_two_mul_lt, BitVec.toNat_ofNat]; omega
  rw [IntOp.shrsi, if_pos (by decide), BitVec.sshiftRight', BitVec.sshiftRight_eq_of_msb_false hm]
  apply BitVec.eq_of_toNat_eq
  rw [BitVec.toNat_ushiftRight, BitVec.toNat_ofNat, BitVec.toNat_ofNat, BitVec.toNat_ofNat, Nat.shiftRight_eq_div_pow,
    show 2 ^ (8 % 2 ^ 32) = 256 by norm_num, Nat.mod_eq_of_lt (show i < 2 ^ 32 by omega), Nat.mod_eq_of_lt (show i / 256 < 2 ^ 32 by omega)]

/-- The reference's mask at an entry compares the 256-block of the row with that of the column. -/
theorem mask_apply (i j : Fin 1024) :
    cmpi .sge (Host.shrsi (iotaInDim S1024x1024 32 0) (broadcastInDim S1024x1024 ![] bcast_S_S1024x1024 (constantI S_ 32 8#32)))
      (Host.shrsi (iotaInDim S1024x1024 32 1) (broadcastInDim S1024x1024 ![] bcast_S_S1024x1024 (constantI S_ 32 8#32))) (ix2 i j)
      = if j.val / 256 ≤ i.val / 256 then 1#1 else 0#1 := by
  simp only [pointwise]
  have hi := i.isLt
  have hj := j.isLt
  rw [shift8 i.val hi, shift8 j.val hj]
  by_cases h : j.val / 256 ≤ i.val / 256
  · rw [if_pos h]; word_cmp
  · rw [if_neg h]; word_cmp

/-- The reference's result is the Gram matrix in the blocks on and under the diagonal, zero above. -/
theorem ref_eq (X : FVec Ideal S96x2048x1024 .bf16) :
    (select (cmpi .sge (Host.shrsi (iotaInDim S1024x1024 32 0) (broadcastInDim S1024x1024 ![] bcast_S_S1024x1024 (constantI S_ 32 8#32)))
        (Host.shrsi (iotaInDim S1024x1024 32 1) (broadcastInDim S1024x1024 ![] bcast_S_S1024x1024 (constantI S_ 32 8#32))))
      (Host.dotGeneral dot_S96x2048x1024_S96x2048x1024_S1024x1024_01_01_2_2_n_n none X X : FVec Ideal S1024x1024 .f32)
      (broadcastInDim S1024x1024 ![] bcast_S_S1024x1024 (constant S_ .f32 0x00000000#32)) : FVec Ideal S1024x1024 .f32)
      = Cert.KernelIdeal.Gram.gramOf X := by
  funext y
  obtain ⟨i, j, rfl⟩ : ∃ (i j : Fin 1024), y = ix2 i j := ⟨y 0, y 1, by funext a; fin_cases a <;> rfl⟩
  show Scalar.select (cmpi .sge _ _ (ix2 i j)) _ _ = _
  rw [mask_apply, dot_apply]
  show _ = if j.val / 256 ≤ i.val / 256 then _ else (0 : EReal)
  by_cases h : j.val / 256 ≤ i.val / 256
  · rw [if_pos h, if_pos h]; rfl
  · rw [if_neg h, if_neg h]
    show Ideal.ofBits .f32 0x00000000#32 = 0
    exact Ideal.ofBits_zero_f32

end Cert.ReferenceIdeal.Gram
end
-- ==== Proof.Safe.lean ====
module

public import Idealize.ShloMosaic.Lib.Memref
public import Idealize.ShloMosaic.Lib.Scf
public import Idealize.ShloMosaic.Lib.Pipeline.Kit
public import Idealize.ShloMosaic.Lib.Ring
public import Idealize.ShloMosaic.Lib.Tactic

/-! Programs that only load from and store to memrefs they own: that such a program ends without a fault, holding what it
held, is proved by its shape alone, one lemma for each kind of statement. -/

@[expose] public section

noncomputable section

namespace Cert.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : ℕ} {τ : Topo} {sig : RefSig} {Val : EltTy → Type} {Λ : Labels}
variable {U : Type} [URA U]

variable (defs : Defs nD τ sig Val Λ) (c : Dev nD) (R : sProp (MT nD τ sig Unit Val ℕ U ℕ))

/-- A program that, run on core `c` holding `R`, ends holding `R`: nothing it does faults, and what it computes is not said. -/
def Safe {α : Type} (p : Prog (TpuEff nD τ sig Val Λ .tc) α) : Prop :=
  R ⊢ wp frame (wpE (Ix := Unit) (Name := ℕ) (U := U) (Lvl := ℕ) defs Variants.none (c : Thread nD τ) none) Set.univ p (fun _ => R)

/-- `R` owns the memref, at some contents, and takes it back at any others. -/
def Holds {sp : Space} {sh : Shape} {e : EltTy} (m : Memref sig .tc sp sh e) : Prop :=
  R ⊢ iprop((∃ d, owns (c : Thread nD τ) m fullShare d) ∗ ((∃ d, owns (c : Thread nD τ) m fullShare d) -∗ R))

variable {defs c R}

/-- Returning does nothing. -/
theorem safe_pure {α : Type} (x : α) : Safe defs c R (pure x : Prog (TpuEff nD τ sig Val Λ .tc) α) := by
  unfold Safe
  rw [wp_pure]
  exact BI.fupd_intro

/-- One program after another. -/
theorem safe_bind {α β : Type} {p : Prog (TpuEff nD τ sig Val Λ .tc) α} {k : α → Prog (TpuEff nD τ sig Val Λ .tc) β}
    (hp : Safe defs c R p) (hk : ∀ x, Safe defs c R (k x)) : Safe defs c R (p >>= k) := by
  unfold Safe at *
  rw [wp_bind]
  exact hp.trans (wp_mono _ _ _ hk)

/-- A load from a memref `R` holds. -/
theorem safe_load {cs : CoreSpace} {s : Shape} {e : EltTy} {m : Memref sig .tc cs s e} (h : Holds c R m) {r : LoadRect s} {hl : m.view.LoadsAt r} :
    Safe defs c R (Prog.lift (.load m r hl)) := by
  unfold Safe
  iintro HR
  unfold Holds at h
  ihave H := h $$ HR
  icases H with ⟨⟨%d, H⟩, Hb⟩
  unfold owns
  icases H with ⟨%f, %hf, H⟩
  iapply (wp_load Variants.none (c : Thread nD τ) none Set.univ (m := m) (View.setOn_subset_set _ _)) $$ H
  iintro H
  rw [wp_ret]
  imodintro
  iapply Hb
  iexists (m.view.read Val f); iexists f
  isplitr; · ipureintro; rfl
  iexact H

/-- A store to a memref `R` holds. -/
theorem safe_store {cs : CoreSpace} {s : Shape} {e : EltTy} {m : Memref sig .tc cs s e} (h : Holds c R m) {r : Rect s} {w : r.shape.Idx → Val e}
    {Mk : Finset r.shape.Idx} {hx : (m.access r).Stores Mk} {hm : Mk = Finset.univ ∨ ∀ a, r.stride a = 1} :
    Safe defs c R (Prog.lift (.store m r w Mk hx hm)) := by
  unfold Safe
  iintro HR
  unfold Holds at h
  ihave H := h $$ HR
  icases H with ⟨⟨%d, H⟩, Hb⟩
  unfold owns
  icases H with ⟨%f, %hf, H⟩
  iapply (wp_store Variants.none (c : Thread nD τ) none Set.univ (m := m) (r := r) (S := m.view.set) (f := f)
    ((View.setOn_subset_set _ _).trans (m.view.set_slice_subset r))) $$ H
  iintro H
  rw [wp_ret]
  imodintro
  iapply Hb
  iexists (m.view.read Val ((m.access r).write Val f w Mk)); iexists ((m.access r).write Val f w Mk)
  isplitr; · ipureintro; rfl
  iexact H

/-- A load of one word of a scalar table `R` holds. -/
theorem safe_word {s : Shape} {e : EltTy} {m : Memref sig .tc .smem s e} (h : Holds c R m) {r : Rect s} {h1 : r.shape.numel = 1} {hp : e.packing = 1} :
    Safe defs c R (smemLoad m r h1 hp) := by
  unfold Safe smemLoad
  iintro HR
  unfold Holds at h
  ihave H := h $$ HR
  icases H with ⟨⟨%d, H⟩, Hb⟩
  unfold owns
  icases H with ⟨%f, %hf, H⟩
  iapply (wp_smemLoadElt Variants.none (c : Thread nD τ) none Set.univ (m := m) (r := r) (S := m.view.set) (f := f) (m.view.set_slice_subset r)) $$ H
  iintro H
  rw [wp_ret]
  imodintro
  iapply Hb
  iexists (m.view.read Val f); iexists f
  isplitr; · ipureintro; rfl
  iexact H

/-- A branch, safe on both sides. -/
theorem safe_dite {α : Type} {P : Prop} [Decidable P] {p : P → Prog (TpuEff nD τ sig Val Λ .tc) α} {q : ¬ P → Prog (TpuEff nD τ sig Val Λ .tc) α}
    (hp : ∀ h, Safe defs c R (p h)) (hq : ∀ h, Safe defs c R (q h)) : Safe defs c R (if h : P then p h else q h) := by
  by_cases h : P
  · rw [dif_pos h]; exact hp h
  · rw [dif_neg h]; exact hq h

/-- A counted loop, whatever its trips carry. -/
theorem safe_for {w : ℕ} {σ : Type} (l : Scf.Loop w) (hok : l.OK) (init : σ) {body : Fin l.trips → σ → Prog (TpuEff nD τ sig Val Λ .tc) σ}
    (h : ∀ k x, Safe defs c R (body k x)) : Safe defs c R (Scf.Loop.for l hok init body) := by
  unfold Safe at *
  iintro HR
  iapply (Scf.wp_for frame _ Set.univ l.lb l.ub l.st hok init body (fun _ _ => R) h)
  isplitl [HR]; · iexact HR
  iintro %acc HR
  iexact HR

end Cert.Safe
end
-- ==== Proof.FactorBodyKernel.lean ====
module

public import proofs.«01_k».proof.Proof.Safe
public import proofs.«01_k».proof.Factor

/-! The body of the factor call, part by part as it is printed, is `Safe` for any `R` that holds its seven memrefs. Each part is
a run of loads, stores, pure values and calls of smaller parts, so each proof only walks over the statements. -/

@[expose] public section

noncomputable section

namespace Cert.Factor.Body

open Cert.Factor Cert.Safe
open Idealize.ShloMosaic Idealize.ShloMosaic.TcCoe
open Idealize.SL Idealize.SL.RA Idealize.SL.BI Idealize.SL.Sem
open Idealize.ShloMosaic.Rounds

variable {F : FTy → Type} [FloatOps F] {U : Type} [URA U]
variable [Facts]
variable {defs : Defs nD τ sig (Elt F) Λ₀} {c : Dev nD} {R : sProp (MT nD τ sig Unit (Elt F) ℕ U ℕ)}

variable (arg0 : Memref sig .tc .vmem S1024x1024 .f32) (harg0 : arg0.IsWhole) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1024 .f32) (harg6 : arg6.IsWhole) (h0 : Holds c R arg0) (h1 : Holds c R arg1) (h2 : Holds c R arg2) (h3 : Holds c R arg3) (h4 : Holds c R arg4) (h5 : Holds c R arg5) (h6 : Holds c R arg6)

include h0 h1 h2 h3 h4 h5 h6 in
/-- Part 358 of the body. -/
theorem safe_part358 (v120 v121 c0_i32 c1_i32 k0_t1) :
    Safe defs c R (k0_part358 (F := F) arg0 harg0 arg1 harg1 arg2 harg2 arg3 harg3 arg4 harg4 arg5 harg5 arg6 harg6 v120 v121 c0_i32 c1_i32 k0_t1) := by
  unfold k0_part358
  delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 359 of the body. -/
theorem safe_part359 (v120 v1496 v1498 v1616 v1618 v1736 v1738 v1856 v1858 v1976 v1978 v2096 v2098 v2216 v2218 v2336 v2338 v2488 v2497 v2500 v2508 v2513 v2518 v2523 v2528 v2533 v2538 v2549 v2558 v2561 v2569 v2574 v2579 v2584 v2589 v2594 v2605 v2614 v2617 v2625 v2630 v2635 v2640 v2645 v2656 v2665 v2668 v2676 v2681 v2686 v2691 v2702 v2711 v2714 v2722 v2727 v2732 v2743 v2752 v2755 v2763 v2768 v2779 v2788 v2791 v2799 v2810 v2819 v2822 v2949 v2951 v3069 v3071 v3189 v3191 v3309 v3311 v3429 v3431 v3549 v3551 v3554 v3557 v3560 v3563 v3566 v3569 v3572 v3573) :
    Safe defs c R (k0_part359 (F := F) arg0 harg0 arg1 harg1 arg2 harg2 arg3 harg3 arg4 harg4 arg5 harg5 arg6 harg6 v120 v1496 v1498 v1616 v1618 v1736 v1738 v1856 v1858 v1976 v1978 v2096 v2098 v2216 v2218 v2336 v2338 v2488 v2497 v2500 v2508 v2513 v2518 v2523 v2528 v2533 v2538 v2549 v2558 v2561 v2569 v2574 v2579 v2584 v2589 v2594 v2605 v2614 v2617 v2625 v2630 v2635 v2640 v2645 v2656 v2665 v2668 v2676 v2681 v2686 v2691 v2702 v2711 v2714 v2722 v2727 v2732 v2743 v2752 v2755 v2763 v2768 v2779 v2788 v2791 v2799 v2810 v2819 v2822 v2949 v2951 v3069 v3071 v3189 v3191 v3309 v3311 v3429 v3431 v3549 v3551 v3554 v3557 v3560 v3563 v3566 v3569 v3572 v3573) := by
  unfold k0_part359
  delta k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 360 of the body. -/
theorem safe_part360 (v120 v5242 v5244 v5362 v5364 v5482 v5484 v5602 v5604 v5722 v5724 v5842 v5844 v5962 v5964 v6082 v6084 v6202 v6204 v6322 v6324 v6474 v6483 v6486 v6494 v6499 v6504 v6509 v6514 v6519 v6524 v6535 v6544 v6547 v6555 v6560 v6565 v6570 v6575 v6580 v6591 v6600 v6603 v6611 v6616 v6621 v6626 v6631 v6642 v6651 v6654 v6662 v6667 v6672 v6677 v6688 v6697 v6700 v6708 v6713 v6718 v6729 v6738 v6741 v6749 v6754 v6765 v6774 v6777 v6785 v6796 v6805 v6808 v6935 v6937 v7055 v7057 v7072 v7075 v7078 v7082 v7084 v7086 v7088 v7090 v7091) :
    Safe defs c R (k0_part360 (F := F) arg0 harg0 arg1 harg1 arg2 harg2 arg3 harg3 arg4 harg4 arg5 harg5 arg6 harg6 v120 v5242 v5244 v5362 v5364 v5482 v5484 v5602 v5604 v5722 v5724 v5842 v5844 v5962 v5964 v6082 v6084 v6202 v6204 v6322 v6324 v6474 v6483 v6486 v6494 v6499 v6504 v6509 v6514 v6519 v6524 v6535 v6544 v6547 v6555 v6560 v6565 v6570 v6575 v6580 v6591 v6600 v6603 v6611 v6616 v6621 v6626 v6631 v6642 v6651 v6654 v6662 v6667 v6672 v6677 v6688 v6697 v6700 v6708 v6713 v6718 v6729 v6738 v6741 v6749 v6754 v6765 v6774 v6777 v6785 v6796 v6805 v6808 v6935 v6937 v7055 v7057 v7072 v7075 v7078 v7082 v7084 v7086 v7088 v7090 v7091) := by
  unfold k0_part360
  delta k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 361 of the body. -/
theorem safe_part361 (v120 v9108 v9110 v9228 v9230 v9348 v9350 v9468 v9470 v9588 v9590 v9708 v9710 v9828 v9830 v9980 v9989 v9992 v10000 v10005 v10010 v10015 v10020 v10025 v10030 v10041 v10050 v10053 v10061 v10066 v10071 v10076 v10081 v10086 v10097 v10106 v10109 v10117 v10122 v10127 v10132 v10137 v10148 v10157 v10160 v10168 v10173 v10178 v10183 v10194 v10203 v10206 v10214 v10219 v10224 v10235 v10244 v10247 v10255 v10260 v10271 v10280 v10283 v10291 v10302 v10311 v10314 v10441 v10443 v10561 v10563 v10592 v10594 v10596 v10598 v10600 v10604 v10606 v10607 v10609) :
    Safe defs c R (k0_part361 (F := F) arg0 harg0 arg1 harg1 arg2 harg2 arg3 harg3 arg4 harg4 arg5 harg5 arg6 harg6 v120 v9108 v9110 v9228 v9230 v9348 v9350 v9468 v9470 v9588 v9590 v9708 v9710 v9828 v9830 v9980 v9989 v9992 v10000 v10005 v10010 v10015 v10020 v10025 v10030 v10041 v10050 v10053 v10061 v10066 v10071 v10076 v10081 v10086 v10097 v10106 v10109 v10117 v10122 v10127 v10132 v10137 v10148 v10157 v10160 v10168 v10173 v10178 v10183 v10194 v10203 v10206 v10214 v10219 v10224 v10235 v10244 v10247 v10255 v10260 v10271 v10280 v10283 v10291 v10302 v10311 v10314 v10441 v10443 v10561 v10563 v10592 v10594 v10596 v10598 v10600 v10604 v10606 v10607 v10609) := by
  unfold k0_part361
  delta k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 362 of the body. -/
theorem safe_part362 (v120 v12854 v12856 v13006 v13015 v13018 v13026 v13031 v13036 v13041 v13046 v13051 v13056 v13067 v13076 v13079 v13087 v13092 v13097 v13102 v13107 v13112 v13123 v13132 v13135 v13143 v13148 v13153 v13158 v13163 v13174 v13183 v13186 v13194 v13199 v13204 v13209 v13220 v13229 v13232 v13240 v13245 v13250 v13261 v13270 v13273 v13281 v13286 v13297 v13306 v13309 v13317 v13328 v13337 v13340 v13467 v13469 v13587 v13589 v13707 v13709 v13827 v13829 v13947 v13949 v14067 v14069 v14112 v14113 v14115 v14117 v14119 v14121 v14123 v14125 v14127) :
    Safe defs c R (k0_part362 (F := F) arg0 harg0 arg1 harg1 arg2 harg2 arg3 harg3 arg4 harg4 arg5 harg5 arg6 harg6 v120 v12854 v12856 v13006 v13015 v13018 v13026 v13031 v13036 v13041 v13046 v13051 v13056 v13067 v13076 v13079 v13087 v13092 v13097 v13102 v13107 v13112 v13123 v13132 v13135 v13143 v13148 v13153 v13158 v13163 v13174 v13183 v13186 v13194 v13199 v13204 v13209 v13220 v13229 v13232 v13240 v13245 v13250 v13261 v13270 v13273 v13281 v13286 v13297 v13306 v13309 v13317 v13328 v13337 v13340 v13467 v13469 v13587 v13589 v13707 v13709 v13827 v13829 v13947 v13949 v14067 v14069 v14112 v14113 v14115 v14117 v14119 v14121 v14123 v14125 v14127) := by
  unfold k0_part362
  delta k0_part241 k0_part242 k0_part243 k0_part244 k0_part245 k0_part246 k0_part247 k0_part248 k0_part249 k0_part250 k0_part251 k0_part252 k0_part253 k0_part254 k0_part255 k0_part256 k0_part257 k0_part258 k0_part259 k0_part260 k0_part261 k0_part262 k0_part263 k0_part264 k0_part265 k0_part266 k0_part267 k0_part268 k0_part269 k0_part270 k0_part271 k0_part272 k0_part273 k0_part274 k0_part275 k0_part276 k0_part277 k0_part278 k0_part279 k0_part280 k0_part281 k0_part282 k0_part283 k0_part284 k0_part285 k0_part286 k0_part287 k0_part288 k0_part289 k0_part290 k0_part291 k0_part292 k0_part293 k0_part294 k0_part295 k0_part296 k0_part297 k0_part298 k0_part299 k0_part300
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 363 of the body. -/
theorem safe_part363 (v6 v7 v120 k0_t1 v125 v640 v643 v656 v658 v2813 v2816 v2829 v2831 v4866 v4869 v4882 v4884 v6799 v6802 v6815 v6817 v8612 v8615 v8628 v8630 v10305 v10308 v10321 v10323 v11878 v11881 v11894 v11896 v13331 v13334 v13347 v13349 v14664 v14667 v14680 v14682 v15877 v15880 v15893 v15895 v16970 v16973 v16986 v16988 v17106 v17108 v17226 v17228 v17346 v17348 v17466 v17468 v17586 v17588 v17591 v17594 v17597 v17600 v17603 v17604) :
    Safe defs c R (k0_part363 (F := F) arg0 harg0 arg1 harg1 arg2 harg2 arg3 harg3 arg4 harg4 arg5 harg5 arg6 harg6 v6 v7 v120 k0_t1 v125 v640 v643 v656 v658 v2813 v2816 v2829 v2831 v4866 v4869 v4882 v4884 v6799 v6802 v6815 v6817 v8612 v8615 v8628 v8630 v10305 v10308 v10321 v10323 v11878 v11881 v11894 v11896 v13331 v13334 v13347 v13349 v14664 v14667 v14680 v14682 v15877 v15880 v15893 v15895 v16970 v16973 v16986 v16988 v17106 v17108 v17226 v17228 v17346 v17348 v17466 v17468 v17586 v17588 v17591 v17594 v17597 v17600 v17603 v17604) := by
  unfold k0_part363
  delta k0_part301 k0_part302 k0_part303 k0_part304 k0_part305 k0_part306 k0_part307 k0_part308 k0_part309 k0_part310 k0_part311 k0_part312 k0_part313 k0_part314 k0_part315 k0_part316 k0_part317 k0_part318 k0_part319 k0_part320 k0_part321 k0_part322 k0_part323 k0_part324 k0_part325 k0_part326 k0_part327 k0_part328 k0_part329 k0_part330 k0_part331 k0_part332 k0_part333 k0_part334 k0_part335 k0_part336 k0_part337 k0_part338 k0_part339 k0_part340 k0_part341 k0_part342 k0_part343 k0_part344 k0_part345 k0_part346 k0_part347 k0_part348 k0_part349 k0_part350 k0_part351 k0_part352 k0_part353 k0_part354 k0_part355 k0_part356 k0_part357
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 364 of the body. -/
theorem safe_part364  :
    Safe defs c R (k0_part364 (F := F) arg0 harg0 arg1 harg1 arg2 harg2 arg3 harg3 arg4 harg4 arg5 harg5 arg6 harg6) := by
  unfold k0_part364
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 365 of the body. -/
theorem safe_part365 (v8 v33) :
    Safe defs c R (k0_part365 (F := F) arg0 harg0 arg1 harg1 arg2 harg2 arg3 harg3 arg4 harg4 arg5 harg5 arg6 harg6 v8 v33) := by
  unfold k0_part365
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 366 of the body. -/
theorem safe_part366 (v8 v47 v66 v70) :
    Safe defs c R (k0_part366 (F := F) arg0 harg0 arg1 harg1 arg2 harg2 arg3 harg3 arg4 harg4 arg5 harg5 arg6 harg6 v8 v47 v66 v70) := by
  unfold k0_part366
  repeat (first
    | with_reducible exact safe_pure _
    | (with_reducible refine safe_bind ?_ (fun _ => ?_))
    | with_reducible exact safe_load (by assumption)
    | with_reducible exact safe_store (by assumption)
    | extract_lets
    | dsimp only)
include h0 h1 h2 h3 h4 h5 h6 in
/-- The whole body: the prologue, then the loop over the blocks with its two inner loops. -/
theorem safe_factor :
    Safe defs c R (cc0_factor (F := F) arg0 harg0 arg1 harg1 arg2 harg2 arg3 harg3 arg4 harg4 arg5 harg5 arg6 harg6) := by
  unfold cc0_factor
  repeat (first
    | with_reducible exact safe_pure _
    | with_reducible exact safe_part364 arg0 harg0 arg1 harg1 arg2 harg2 arg3 harg3 arg4 harg4 arg5 harg5 arg6 harg6 h0 h1 h2 h3 h4 h5 h6
    | with_reducible exact safe_part365 arg0 harg0 arg1 harg1 arg2 harg2 arg3 harg3 arg4 harg4 arg5 harg5 arg6 harg6 h0 h1 h2 h3 h4 h5 h6 _ _
    | with_reducible exact safe_part366 arg0 harg0 arg1 harg1 arg2 harg2 arg3 harg3 arg4 harg4 arg5 harg5 arg6 harg6 h0 h1 h2 h3 h4 h5 h6 _ _ _ _
    | with_reducible exact safe_part358 arg0 harg0 arg1 harg1 arg2 harg2 arg3 harg3 arg4 harg4 arg5 harg5 arg6 harg6 h0 h1 h2 h3 h4 h5 h6 _ _ _ _ _
    | with_reducible exact safe_part359 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | with_reducible exact safe_part360 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | with_reducible exact safe_part361 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | with_reducible exact safe_part362 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | with_reducible exact safe_part363 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | (with_reducible refine safe_bind ?_ (fun _ => ?_))
    | with_reducible exact safe_load (by assumption)
    | with_reducible exact safe_store (by assumption)
    | (refine safe_for _ _ _ (fun _ _ => ?_))
    | extract_lets
    | dsimp only)

end Cert.Factor.Body
end
-- ==== Proof.FactorRunKernel.lean ====
module

public import proofs.«01_k».proof.Proof.FactorBodyKernel
public import proofs.«01_k».proof.Proof.Gen.Factor.Launch
public import proofs.«01_k».proof.Proof.Gen.Factor.Points
public import proofs.«01_k».proof.Proof.Gen.Factor.Frame
public import Idealize.ShloMosaic.Lib.Pipeline.FrameBody
public import Idealize.ShloMosaic.Lib.Claim

/-! The frame of the factor call: it ends, `h` is unchanged, every semaphore is at zero. What the five results hold is not said:
every window's contents are forgotten. -/

@[expose] public section

noncomputable section

namespace Cert.Factor.Body

open Cert.Factor Cert.Factor.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch the elimination works in. -/
abbrev scM0_0 : Memref sig .tc .vmem S1024x1024 .f32 := Memref.whole cc0_scratch0

/-- The region's invariant: the scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The arrays as the region finds them; nothing named of what the body leaves; nothing owed; full shares. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with, and gives back: the invariant, what is owed, and every window at some contents. -/
def held (c : Dev nD) (t : Fin cfg0.N) : sProp 𝕄 :=
  iprop((iprop((∃ d, owns (c : Thread nD τ) scM0_0 fullShare d)) ∗ (∃ r, prngReg c r)) ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))

/-- What is held holds each of the body's seven memrefs. -/
theorem holds_0 (c : Dev nD) (t : Fin cfg0.N) : Holds c (held m c t) (st0_0 t) := by
  unfold Holds held
  iintro ⟨⟨HS, Hg⟩, Ho, H0, H1, H2, H3, H4, H5⟩
  isplitl [H0]; · iexact H0
  iintro H0
  iframe
theorem holds_1 (c : Dev nD) (t : Fin cfg0.N) : Holds c (held m c t) (st0_1 t) := by
  unfold Holds held
  iintro ⟨⟨HS, Hg⟩, Ho, H0, H1, H2, H3, H4, H5⟩
  isplitl [H1]; · iexact H1
  iintro H1
  iframe
theorem holds_2 (c : Dev nD) (t : Fin cfg0.N) : Holds c (held m c t) (st0_2 t) := by
  unfold Holds held
  iintro ⟨⟨HS, Hg⟩, Ho, H0, H1, H2, H3, H4, H5⟩
  isplitl [H2]; · iexact H2
  iintro H2
  iframe
theorem holds_3 (c : Dev nD) (t : Fin cfg0.N) : Holds c (held m c t) (st0_3 t) := by
  unfold Holds held
  iintro ⟨⟨HS, Hg⟩, Ho, H0, H1, H2, H3, H4, H5⟩
  isplitl [H3]; · iexact H3
  iintro H3
  iframe
theorem holds_4 (c : Dev nD) (t : Fin cfg0.N) : Holds c (held m c t) (st0_4 t) := by
  unfold Holds held
  iintro ⟨⟨HS, Hg⟩, Ho, H0, H1, H2, H3, H4, H5⟩
  isplitl [H4]; · iexact H4
  iintro H4
  iframe
theorem holds_5 (c : Dev nD) (t : Fin cfg0.N) : Holds c (held m c t) (st0_5 t) := by
  unfold Holds held
  iintro ⟨⟨HS, Hg⟩, Ho, H0, H1, H2, H3, H4, H5⟩
  isplitl [H5]; · iexact H5
  iintro H5
  iframe
theorem holds_scratch (c : Dev nD) (t : Fin cfg0.N) : Holds c (held m c t) scM0_0 := by
  unfold Holds held
  iintro ⟨⟨HS, Hg⟩, Ho, H0, H1, H2, H3, H4, H5⟩
  isplitl [HS]; · iexact HS
  iintro HS
  iframe

/-- The body at the one point. -/
theorem sound_body (c : Dev nD) (t : Fin cfg0.N) : Safe (defs₀ (F := F)) c (held m c t) (bodyAt0 t) :=
  safe_factor _ _ _ _ _ _ _ _ _ _ _ _ _ _ (holds_0 m c t) (holds_1 m c t) (holds_2 m c t) (holds_3 m c t) (holds_4 m c t)
    (holds_5 m c t) (holds_scratch m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, every window forgotten. -/
theorem body_obligation (c : Dev nD) :
    BodyObligation (dats (F := F) m 0 c) (defs₀ (F := F)) Variants.none () Set.univ (fun _ => true) := fun t => by
  have h := sound_body m c t
  unfold Safe held at h
  rw [← PhiA0_eq] at h
  rw [bigSep_W0, defs₀_row]
  exact triple_restated h rfl .rfl fun _ => .rfl

set_option backward.isDefEq.respectTransparency.types false in
/-- The whole run: `h` at what it was, every semaphore at zero. -/
theorem run_main : θ_run defs (onTc (τ := τ) (main (F := F))) (s₀ m ρ) (fun r =>
      RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame claim: it ends, `h` is unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1.arr_in c 0 rfl).trans ((A_eq m c 0).trans (V_main_arg0 m c)), h.2⟩) (run_main m ρ)

end Cert.Factor.Body
end
-- ==== Proof.FactorBody.lean ====
module

public import proofs.«01_k».proof.Proof.Safe
public import proofs.«01_k».proof.FactorIdeal

/-! The body of the factor call, part by part as it is printed, is `Safe` for any `R` that holds its seven memrefs. Each part is
a run of loads, stores, pure values and calls of smaller parts, so each proof only walks over the statements. -/

@[expose] public section

noncomputable section

namespace Cert.FactorIdeal.Body

open Cert.FactorIdeal Cert.Safe
open Idealize.ShloMosaic Idealize.ShloMosaic.TcCoe
open Idealize.SL Idealize.SL.RA Idealize.SL.BI Idealize.SL.Sem
open Idealize.ShloMosaic.Rounds

variable {F : FTy → Type} [FloatOps F] {U : Type} [URA U]
variable [Facts]
variable {defs : Defs nD τ sig (Elt F) Λ₀} {c : Dev nD} {R : sProp (MT nD τ sig Unit (Elt F) ℕ U ℕ)}

variable (arg0 : Memref sig .tc .vmem S1024x1024 .f32) (harg0 : arg0.IsWhole) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x1024 .f32) (harg6 : arg6.IsWhole) (h0 : Holds c R arg0) (h1 : Holds c R arg1) (h2 : Holds c R arg2) (h3 : Holds c R arg3) (h4 : Holds c R arg4) (h5 : Holds c R arg5) (h6 : Holds c R arg6)

include h0 h1 h2 h3 h4 h5 h6 in
/-- Part 358 of the body. -/
theorem safe_part358 (v120 v121 c0_i32 c1_i32 k0_t1) :
    Safe defs c R (k0_part358 (F := F) arg0 harg0 arg1 harg1 arg2 harg2 arg3 harg3 arg4 harg4 arg5 harg5 arg6 harg6 v120 v121 c0_i32 c1_i32 k0_t1) := by
  unfold k0_part358
  delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 359 of the body. -/
theorem safe_part359 (v120 v1496 v1498 v1616 v1618 v1736 v1738 v1856 v1858 v1976 v1978 v2096 v2098 v2216 v2218 v2336 v2338 v2488 v2497 v2500 v2508 v2513 v2518 v2523 v2528 v2533 v2538 v2549 v2558 v2561 v2569 v2574 v2579 v2584 v2589 v2594 v2605 v2614 v2617 v2625 v2630 v2635 v2640 v2645 v2656 v2665 v2668 v2676 v2681 v2686 v2691 v2702 v2711 v2714 v2722 v2727 v2732 v2743 v2752 v2755 v2763 v2768 v2779 v2788 v2791 v2799 v2810 v2819 v2822 v2949 v2951 v3069 v3071 v3189 v3191 v3309 v3311 v3429 v3431 v3549 v3551 v3554 v3557 v3560 v3563 v3566 v3569 v3572 v3573) :
    Safe defs c R (k0_part359 (F := F) arg0 harg0 arg1 harg1 arg2 harg2 arg3 harg3 arg4 harg4 arg5 harg5 arg6 harg6 v120 v1496 v1498 v1616 v1618 v1736 v1738 v1856 v1858 v1976 v1978 v2096 v2098 v2216 v2218 v2336 v2338 v2488 v2497 v2500 v2508 v2513 v2518 v2523 v2528 v2533 v2538 v2549 v2558 v2561 v2569 v2574 v2579 v2584 v2589 v2594 v2605 v2614 v2617 v2625 v2630 v2635 v2640 v2645 v2656 v2665 v2668 v2676 v2681 v2686 v2691 v2702 v2711 v2714 v2722 v2727 v2732 v2743 v2752 v2755 v2763 v2768 v2779 v2788 v2791 v2799 v2810 v2819 v2822 v2949 v2951 v3069 v3071 v3189 v3191 v3309 v3311 v3429 v3431 v3549 v3551 v3554 v3557 v3560 v3563 v3566 v3569 v3572 v3573) := by
  unfold k0_part359
  delta k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 360 of the body. -/
theorem safe_part360 (v120 v5242 v5244 v5362 v5364 v5482 v5484 v5602 v5604 v5722 v5724 v5842 v5844 v5962 v5964 v6082 v6084 v6202 v6204 v6322 v6324 v6474 v6483 v6486 v6494 v6499 v6504 v6509 v6514 v6519 v6524 v6535 v6544 v6547 v6555 v6560 v6565 v6570 v6575 v6580 v6591 v6600 v6603 v6611 v6616 v6621 v6626 v6631 v6642 v6651 v6654 v6662 v6667 v6672 v6677 v6688 v6697 v6700 v6708 v6713 v6718 v6729 v6738 v6741 v6749 v6754 v6765 v6774 v6777 v6785 v6796 v6805 v6808 v6935 v6937 v7055 v7057 v7072 v7075 v7078 v7082 v7084 v7086 v7088 v7090 v7091) :
    Safe defs c R (k0_part360 (F := F) arg0 harg0 arg1 harg1 arg2 harg2 arg3 harg3 arg4 harg4 arg5 harg5 arg6 harg6 v120 v5242 v5244 v5362 v5364 v5482 v5484 v5602 v5604 v5722 v5724 v5842 v5844 v5962 v5964 v6082 v6084 v6202 v6204 v6322 v6324 v6474 v6483 v6486 v6494 v6499 v6504 v6509 v6514 v6519 v6524 v6535 v6544 v6547 v6555 v6560 v6565 v6570 v6575 v6580 v6591 v6600 v6603 v6611 v6616 v6621 v6626 v6631 v6642 v6651 v6654 v6662 v6667 v6672 v6677 v6688 v6697 v6700 v6708 v6713 v6718 v6729 v6738 v6741 v6749 v6754 v6765 v6774 v6777 v6785 v6796 v6805 v6808 v6935 v6937 v7055 v7057 v7072 v7075 v7078 v7082 v7084 v7086 v7088 v7090 v7091) := by
  unfold k0_part360
  delta k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 361 of the body. -/
theorem safe_part361 (v120 v9108 v9110 v9228 v9230 v9348 v9350 v9468 v9470 v9588 v9590 v9708 v9710 v9828 v9830 v9980 v9989 v9992 v10000 v10005 v10010 v10015 v10020 v10025 v10030 v10041 v10050 v10053 v10061 v10066 v10071 v10076 v10081 v10086 v10097 v10106 v10109 v10117 v10122 v10127 v10132 v10137 v10148 v10157 v10160 v10168 v10173 v10178 v10183 v10194 v10203 v10206 v10214 v10219 v10224 v10235 v10244 v10247 v10255 v10260 v10271 v10280 v10283 v10291 v10302 v10311 v10314 v10441 v10443 v10561 v10563 v10592 v10594 v10596 v10598 v10600 v10604 v10606 v10607 v10609) :
    Safe defs c R (k0_part361 (F := F) arg0 harg0 arg1 harg1 arg2 harg2 arg3 harg3 arg4 harg4 arg5 harg5 arg6 harg6 v120 v9108 v9110 v9228 v9230 v9348 v9350 v9468 v9470 v9588 v9590 v9708 v9710 v9828 v9830 v9980 v9989 v9992 v10000 v10005 v10010 v10015 v10020 v10025 v10030 v10041 v10050 v10053 v10061 v10066 v10071 v10076 v10081 v10086 v10097 v10106 v10109 v10117 v10122 v10127 v10132 v10137 v10148 v10157 v10160 v10168 v10173 v10178 v10183 v10194 v10203 v10206 v10214 v10219 v10224 v10235 v10244 v10247 v10255 v10260 v10271 v10280 v10283 v10291 v10302 v10311 v10314 v10441 v10443 v10561 v10563 v10592 v10594 v10596 v10598 v10600 v10604 v10606 v10607 v10609) := by
  unfold k0_part361
  delta k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 362 of the body. -/
theorem safe_part362 (v120 v12854 v12856 v13006 v13015 v13018 v13026 v13031 v13036 v13041 v13046 v13051 v13056 v13067 v13076 v13079 v13087 v13092 v13097 v13102 v13107 v13112 v13123 v13132 v13135 v13143 v13148 v13153 v13158 v13163 v13174 v13183 v13186 v13194 v13199 v13204 v13209 v13220 v13229 v13232 v13240 v13245 v13250 v13261 v13270 v13273 v13281 v13286 v13297 v13306 v13309 v13317 v13328 v13337 v13340 v13467 v13469 v13587 v13589 v13707 v13709 v13827 v13829 v13947 v13949 v14067 v14069 v14112 v14113 v14115 v14117 v14119 v14121 v14123 v14125 v14127) :
    Safe defs c R (k0_part362 (F := F) arg0 harg0 arg1 harg1 arg2 harg2 arg3 harg3 arg4 harg4 arg5 harg5 arg6 harg6 v120 v12854 v12856 v13006 v13015 v13018 v13026 v13031 v13036 v13041 v13046 v13051 v13056 v13067 v13076 v13079 v13087 v13092 v13097 v13102 v13107 v13112 v13123 v13132 v13135 v13143 v13148 v13153 v13158 v13163 v13174 v13183 v13186 v13194 v13199 v13204 v13209 v13220 v13229 v13232 v13240 v13245 v13250 v13261 v13270 v13273 v13281 v13286 v13297 v13306 v13309 v13317 v13328 v13337 v13340 v13467 v13469 v13587 v13589 v13707 v13709 v13827 v13829 v13947 v13949 v14067 v14069 v14112 v14113 v14115 v14117 v14119 v14121 v14123 v14125 v14127) := by
  unfold k0_part362
  delta k0_part241 k0_part242 k0_part243 k0_part244 k0_part245 k0_part246 k0_part247 k0_part248 k0_part249 k0_part250 k0_part251 k0_part252 k0_part253 k0_part254 k0_part255 k0_part256 k0_part257 k0_part258 k0_part259 k0_part260 k0_part261 k0_part262 k0_part263 k0_part264 k0_part265 k0_part266 k0_part267 k0_part268 k0_part269 k0_part270 k0_part271 k0_part272 k0_part273 k0_part274 k0_part275 k0_part276 k0_part277 k0_part278 k0_part279 k0_part280 k0_part281 k0_part282 k0_part283 k0_part284 k0_part285 k0_part286 k0_part287 k0_part288 k0_part289 k0_part290 k0_part291 k0_part292 k0_part293 k0_part294 k0_part295 k0_part296 k0_part297 k0_part298 k0_part299 k0_part300
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 363 of the body. -/
theorem safe_part363 (v6 v7 v120 k0_t1 v125 v640 v643 v656 v658 v2813 v2816 v2829 v2831 v4866 v4869 v4882 v4884 v6799 v6802 v6815 v6817 v8612 v8615 v8628 v8630 v10305 v10308 v10321 v10323 v11878 v11881 v11894 v11896 v13331 v13334 v13347 v13349 v14664 v14667 v14680 v14682 v15877 v15880 v15893 v15895 v16970 v16973 v16986 v16988 v17106 v17108 v17226 v17228 v17346 v17348 v17466 v17468 v17586 v17588 v17591 v17594 v17597 v17600 v17603 v17604) :
    Safe defs c R (k0_part363 (F := F) arg0 harg0 arg1 harg1 arg2 harg2 arg3 harg3 arg4 harg4 arg5 harg5 arg6 harg6 v6 v7 v120 k0_t1 v125 v640 v643 v656 v658 v2813 v2816 v2829 v2831 v4866 v4869 v4882 v4884 v6799 v6802 v6815 v6817 v8612 v8615 v8628 v8630 v10305 v10308 v10321 v10323 v11878 v11881 v11894 v11896 v13331 v13334 v13347 v13349 v14664 v14667 v14680 v14682 v15877 v15880 v15893 v15895 v16970 v16973 v16986 v16988 v17106 v17108 v17226 v17228 v17346 v17348 v17466 v17468 v17586 v17588 v17591 v17594 v17597 v17600 v17603 v17604) := by
  unfold k0_part363
  delta k0_part301 k0_part302 k0_part303 k0_part304 k0_part305 k0_part306 k0_part307 k0_part308 k0_part309 k0_part310 k0_part311 k0_part312 k0_part313 k0_part314 k0_part315 k0_part316 k0_part317 k0_part318 k0_part319 k0_part320 k0_part321 k0_part322 k0_part323 k0_part324 k0_part325 k0_part326 k0_part327 k0_part328 k0_part329 k0_part330 k0_part331 k0_part332 k0_part333 k0_part334 k0_part335 k0_part336 k0_part337 k0_part338 k0_part339 k0_part340 k0_part341 k0_part342 k0_part343 k0_part344 k0_part345 k0_part346 k0_part347 k0_part348 k0_part349 k0_part350 k0_part351 k0_part352 k0_part353 k0_part354 k0_part355 k0_part356 k0_part357
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 364 of the body. -/
theorem safe_part364  :
    Safe defs c R (k0_part364 (F := F) arg0 harg0 arg1 harg1 arg2 harg2 arg3 harg3 arg4 harg4 arg5 harg5 arg6 harg6) := by
  unfold k0_part364
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 365 of the body. -/
theorem safe_part365 (v8 v33) :
    Safe defs c R (k0_part365 (F := F) arg0 harg0 arg1 harg1 arg2 harg2 arg3 harg3 arg4 harg4 arg5 harg5 arg6 harg6 v8 v33) := by
  unfold k0_part365
  repeat (first
    | with_reducible exact safe_pure _
    | (with_reducible refine safe_bind ?_ (fun _ => ?_))
    | with_reducible exact safe_load (by assumption)
    | with_reducible exact safe_store (by assumption)
    | extract_lets
    | dsimp only)

include h0 h1 h2 h3 h4 h5 h6 in
/-- Part 366 of the body. -/
theorem safe_part366 (v8 v47 v66 v70) :
    Safe defs c R (k0_part366 (F := F) arg0 harg0 arg1 harg1 arg2 harg2 arg3 harg3 arg4 harg4 arg5 harg5 arg6 harg6 v8 v47 v66 v70) := by
  unfold k0_part366
  repeat (first
    | with_reducible exact safe_pure _
    | (with_reducible refine safe_bind ?_ (fun _ => ?_))
    | with_reducible exact safe_load (by assumption)
    | with_reducible exact safe_store (by assumption)
    | extract_lets
    | dsimp only)
include h0 h1 h2 h3 h4 h5 h6 in
/-- The whole body: the prologue, then the loop over the blocks with its two inner loops. -/
theorem safe_factor :
    Safe defs c R (cc0_factor (F := F) arg0 harg0 arg1 harg1 arg2 harg2 arg3 harg3 arg4 harg4 arg5 harg5 arg6 harg6) := by
  unfold cc0_factor
  repeat (first
    | with_reducible exact safe_pure _
    | with_reducible exact safe_part364 arg0 harg0 arg1 harg1 arg2 harg2 arg3 harg3 arg4 harg4 arg5 harg5 arg6 harg6 h0 h1 h2 h3 h4 h5 h6
    | with_reducible exact safe_part365 arg0 harg0 arg1 harg1 arg2 harg2 arg3 harg3 arg4 harg4 arg5 harg5 arg6 harg6 h0 h1 h2 h3 h4 h5 h6 _ _
    | with_reducible exact safe_part366 arg0 harg0 arg1 harg1 arg2 harg2 arg3 harg3 arg4 harg4 arg5 harg5 arg6 harg6 h0 h1 h2 h3 h4 h5 h6 _ _ _ _
    | with_reducible exact safe_part358 arg0 harg0 arg1 harg1 arg2 harg2 arg3 harg3 arg4 harg4 arg5 harg5 arg6 harg6 h0 h1 h2 h3 h4 h5 h6 _ _ _ _ _
    | with_reducible exact safe_part359 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | with_reducible exact safe_part360 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | with_reducible exact safe_part361 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | with_reducible exact safe_part362 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | with_reducible exact safe_part363 arg0 harg0 arg1 harg1 arg2 harg2 arg3 harg3 arg4 harg4 arg5 harg5 arg6 harg6 h0 h1 h2 h3 h4 h5 h6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    | (with_reducible refine safe_bind ?_ (fun _ => ?_))
    | with_reducible exact safe_load (by assumption)
    | with_reducible exact safe_store (by assumption)
    | (refine safe_for _ _ _ (fun _ _ => ?_))
    | extract_lets
    | dsimp only)

end Cert.FactorIdeal.Body
end
-- ==== Proof.FactorRun.lean ====
module

public import proofs.«01_k».proof.Proof.FactorBody
public import proofs.«01_k».proof.Proof.Gen.FactorIdeal.Launch
public import proofs.«01_k».proof.Proof.Gen.FactorIdeal.Points
public import proofs.«01_k».proof.Proof.Gen.FactorIdeal.Frame
public import Idealize.ShloMosaic.Lib.Pipeline.FrameBody
public import Idealize.ShloMosaic.Lib.Claim

/-! The frame of the factor call: it ends, `h` is unchanged, every semaphore is at zero. What the five results hold is not said:
every window's contents are forgotten. -/

@[expose] public section

noncomputable section

namespace Cert.FactorIdeal.Body

open Cert.FactorIdeal Cert.FactorIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch the elimination works in. -/
abbrev scM0_0 : Memref sig .tc .vmem S1024x1024 .f32 := Memref.whole cc0_scratch0

/-- The region's invariant: the scratch owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The arrays as the region finds them; nothing named of what the body leaves; nothing owed; full shares. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with, and gives back: the invariant, what is owed, and every window at some contents. -/
def held (c : Dev nD) (t : Fin cfg0.N) : sProp 𝕄 :=
  iprop((iprop((∃ d, owns (c : Thread nD τ) scM0_0 fullShare d)) ∗ (∃ r, prngReg c r)) ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d))

/-- What is held holds each of the body's seven memrefs. -/
theorem holds_0 (c : Dev nD) (t : Fin cfg0.N) : Holds c (held m c t) (st0_0 t) := by
  unfold Holds held
  iintro ⟨⟨HS, Hg⟩, Ho, H0, H1, H2, H3, H4, H5⟩
  isplitl [H0]; · iexact H0
  iintro H0
  iframe
theorem holds_1 (c : Dev nD) (t : Fin cfg0.N) : Holds c (held m c t) (st0_1 t) := by
  unfold Holds held
  iintro ⟨⟨HS, Hg⟩, Ho, H0, H1, H2, H3, H4, H5⟩
  isplitl [H1]; · iexact H1
  iintro H1
  iframe
theorem holds_2 (c : Dev nD) (t : Fin cfg0.N) : Holds c (held m c t) (st0_2 t) := by
  unfold Holds held
  iintro ⟨⟨HS, Hg⟩, Ho, H0, H1, H2, H3, H4, H5⟩
  isplitl [H2]; · iexact H2
  iintro H2
  iframe
theorem holds_3 (c : Dev nD) (t : Fin cfg0.N) : Holds c (held m c t) (st0_3 t) := by
  unfold Holds held
  iintro ⟨⟨HS, Hg⟩, Ho, H0, H1, H2, H3, H4, H5⟩
  isplitl [H3]; · iexact H3
  iintro H3
  iframe
theorem holds_4 (c : Dev nD) (t : Fin cfg0.N) : Holds c (held m c t) (st0_4 t) := by
  unfold Holds held
  iintro ⟨⟨HS, Hg⟩, Ho, H0, H1, H2, H3, H4, H5⟩
  isplitl [H4]; · iexact H4
  iintro H4
  iframe
theorem holds_5 (c : Dev nD) (t : Fin cfg0.N) : Holds c (held m c t) (st0_5 t) := by
  unfold Holds held
  iintro ⟨⟨HS, Hg⟩, Ho, H0, H1, H2, H3, H4, H5⟩
  isplitl [H5]; · iexact H5
  iintro H5
  iframe
theorem holds_scratch (c : Dev nD) (t : Fin cfg0.N) : Holds c (held m c t) scM0_0 := by
  unfold Holds held
  iintro ⟨⟨HS, Hg⟩, Ho, H0, H1, H2, H3, H4, H5⟩
  isplitl [HS]; · iexact HS
  iintro HS
  iframe

/-- The body at the one point. -/
theorem sound_body (c : Dev nD) (t : Fin cfg0.N) : Safe (defs₀ (F := F)) c (held m c t) (bodyAt0 t) :=
  safe_factor _ _ _ _ _ _ _ _ _ _ _ _ _ _ (holds_0 m c t) (holds_1 m c t) (holds_2 m c t) (holds_3 m c t) (holds_4 m c t)
    (holds_5 m c t) (holds_scratch m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, every window forgotten. -/
theorem body_obligation (c : Dev nD) :
    BodyObligation (dats (F := F) m 0 c) (defs₀ (F := F)) Variants.none () Set.univ (fun _ => true) := fun t => by
  have h := sound_body m c t
  unfold Safe held at h
  rw [← PhiA0_eq] at h
  rw [bigSep_W0, defs₀_row]
  exact triple_restated h rfl .rfl fun _ => .rfl

set_option backward.isDefEq.respectTransparency.types false in
/-- The whole run: `h` at what it was, every semaphore at zero. -/
theorem run_main : θ_run defs (onTc (τ := τ) (main (F := F))) (s₀ m ρ) (fun r =>
      RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame claim: it ends, `h` is unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1.arr_in c 0 rfl).trans ((A_eq m c 0).trans (V_main_arg0 m c)), h.2⟩) (run_main m ρ)

end Cert.FactorIdeal.Body
end
-- ==== Proof.SweepBodyKernel.lean ====
module

public import proofs.«01_k».proof.Proof.Safe
public import proofs.«01_k».proof.Sweep

/-! The body of the sweep call, part by part as it is printed, is `Safe` for any `R` that holds its sixteen memrefs. Each part is
a run of loads, stores, pure values and calls of smaller parts, so each proof only walks over the statements. -/

@[expose] public section

noncomputable section

namespace Cert.Sweep.Body

open Cert.Sweep Cert.Safe
open Idealize.ShloMosaic Idealize.ShloMosaic.TcCoe
open Idealize.SL Idealize.SL.RA Idealize.SL.BI Idealize.SL.Sem
open Idealize.ShloMosaic.Rounds

variable {F : FTy → Type} [FloatOps F] {U : Type} [URA U]
variable [Facts]
variable {defs : Defs nD τ sig (Elt F) Λ₀} {c : Dev nD} {R : sProp (MT nD τ sig Unit (Elt F) ℕ U ℕ)}

variable (i : grid0.Coords) (arg1 : Memref sig .tc .smem S32768 .f32) (harg1 : arg1.IsWhole) (arg2 : Memref sig .tc .smem S1024 .f32) (harg2 : arg2.IsWhole) (arg3 : Memref sig .tc .vmem S128x2816 .bf16) (harg3 : arg3.IsWhole) (arg4 : Memref sig .tc .vmem S128x2816 .i8) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S128x2816 .f32) (harg8 : arg8.IsWhole) (arg9 : Memref sig .tc .vmem S128x2816 .f32) (harg9 : arg9.IsWhole) (arg10 : Memref sig .tc .vmem S1024x2816 .f32) (harg10 : arg10.IsWhole) (arg11 : Memref sig .tc .vmem S128x2816 .i32) (harg11 : arg11.IsWhole) (arg12 : Memref sig .tc .vmem S704x128 .f32) (harg12 : arg12.IsWhole) (arg13 : Memref sig .tc .vmem S704x128 .f32) (harg13 : arg13.IsWhole) (arg14 : Memref sig .tc .vmem S704x128 .f32) (harg14 : arg14.IsWhole) (arg15 : Memref sig .tc .vmem S704x128 .f32) (harg15 : arg15.IsWhole) (arg16 : Memref sig .tc .vmem S3x128x2816 .bf16) (harg16 : arg16.IsWhole)
variable (h1 : Holds c R arg1) (h2 : Holds c R arg2) (h3 : Holds c R arg3) (h4 : Holds c R arg4) (h5 : Holds c R arg5) (h6 : Holds c R arg6) (h7 : Holds c R arg7) (h8 : Holds c R arg8) (h9 : Holds c R arg9) (h10 : Holds c R arg10) (h11 : Holds c R arg11) (h12 : Holds c R arg12) (h13 : Holds c R arg13) (h14 : Holds c R arg14) (h15 : Holds c R arg15) (h16 : Holds c R arg16)

include h1 h2 h3 h4 h5 h6 h7 h8 h9 h10 h11 h12 h13 h14 h15 h16 in
/-- Part 827 of the body. -/
theorem safe_part827 :
    Safe defs c R (k0_part827 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold k0_part827
  delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60
  repeat (first
    | with_reducible exact safe_pure _
    | (with_reducible refine safe_bind ?_ (fun _ => ?_))
    | with_reducible exact safe_load (by assumption)
    | with_reducible exact safe_store (by assumption)
    | (with_reducible refine safe_dite (fun _ => ?_) (fun _ => ?_))
    | extract_lets
    | dsimp only
    | exact safe_word (by assumption))

include h1 h2 h3 h4 h5 h6 h7 h8 h9 h10 h11 h12 h13 h14 h15 h16 in
/-- Part 828 of the body. -/
theorem safe_part828 (v1 v1947 v2195 v2202 v2209 v2210 v2217 v2222) :
    Safe defs c R (k0_part828 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v1947 v2195 v2202 v2209 v2210 v2217 v2222) := by
  unfold k0_part828
  delta k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 829 of the body. -/
theorem safe_part829 (v1 v1947 v4754 v4761 v4768 v4775 v4776) :
    Safe defs c R (k0_part829 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v1947 v4754 v4761 v4768 v4775 v4776) := by
  unfold k0_part829
  delta k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 830 of the body. -/
theorem safe_part830 (v1 v5 v9 v6958) :
    Safe defs c R (k0_part830 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9 v6958) := by
  unfold k0_part830
  delta k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 831 of the body. -/
theorem safe_part831 (v1 v5 v9) :
    Safe defs c R (k0_part831 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9) := by
  unfold k0_part831
  delta k0_part241 k0_part242 k0_part243 k0_part244 k0_part245 k0_part246 k0_part247 k0_part248 k0_part249 k0_part250 k0_part251 k0_part252 k0_part253 k0_part254 k0_part255 k0_part256 k0_part257 k0_part258 k0_part259 k0_part260 k0_part261 k0_part262 k0_part263 k0_part264 k0_part265 k0_part266 k0_part267 k0_part268 k0_part269 k0_part270 k0_part271 k0_part272 k0_part273 k0_part274 k0_part275 k0_part276 k0_part277 k0_part278 k0_part279 k0_part280 k0_part281 k0_part282 k0_part283 k0_part284 k0_part285 k0_part286 k0_part287 k0_part288 k0_part289 k0_part290 k0_part291 k0_part292 k0_part293 k0_part294 k0_part295 k0_part296 k0_part297 k0_part298 k0_part299 k0_part300
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 832 of the body. -/
theorem safe_part832 (v1 v9615 v11275 v11282 v11289 v11290 v11297 v11301) :
    Safe defs c R (k0_part832 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v9615 v11275 v11282 v11289 v11290 v11297 v11301) := by
  unfold k0_part832
  delta k0_part301 k0_part302 k0_part303 k0_part304 k0_part305 k0_part306 k0_part307 k0_part308 k0_part309 k0_part310 k0_part311 k0_part312 k0_part313 k0_part314 k0_part315 k0_part316 k0_part317 k0_part318 k0_part319 k0_part320 k0_part321 k0_part322 k0_part323 k0_part324 k0_part325 k0_part326 k0_part327 k0_part328 k0_part329 k0_part330 k0_part331 k0_part332 k0_part333 k0_part334 k0_part335 k0_part336 k0_part337 k0_part338 k0_part339 k0_part340 k0_part341 k0_part342 k0_part343 k0_part344 k0_part345 k0_part346 k0_part347 k0_part348 k0_part349 k0_part350 k0_part351 k0_part352 k0_part353 k0_part354 k0_part355 k0_part356 k0_part357 k0_part358 k0_part359 k0_part360
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 833 of the body. -/
theorem safe_part833 (v1 v5 v9 v9615 v13883 v13890 v13891 v13898 v13905) :
    Safe defs c R (k0_part833 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9 v9615 v13883 v13890 v13891 v13898 v13905) := by
  unfold k0_part833
  delta k0_part361 k0_part362 k0_part363 k0_part364 k0_part365 k0_part366 k0_part367 k0_part368 k0_part369 k0_part370 k0_part371 k0_part372 k0_part373 k0_part374 k0_part375 k0_part376 k0_part377 k0_part378 k0_part379 k0_part380 k0_part381 k0_part382 k0_part383 k0_part384 k0_part385 k0_part386 k0_part387 k0_part388 k0_part389 k0_part390 k0_part391 k0_part392 k0_part393 k0_part394 k0_part395 k0_part396 k0_part397 k0_part398 k0_part399 k0_part400 k0_part401 k0_part402 k0_part403 k0_part404 k0_part405 k0_part406 k0_part407 k0_part408 k0_part409 k0_part410 k0_part411 k0_part412 k0_part413 k0_part414 k0_part415 k0_part416 k0_part417 k0_part418 k0_part419 k0_part420
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 834 of the body. -/
theorem safe_part834 (v1 v5 v9 v15567 v15571 v15577) :
    Safe defs c R (k0_part834 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9 v15567 v15571 v15577) := by
  unfold k0_part834
  delta k0_part421 k0_part422 k0_part423 k0_part424 k0_part425 k0_part426 k0_part427 k0_part428 k0_part429 k0_part430 k0_part431 k0_part432 k0_part433 k0_part434 k0_part435 k0_part436 k0_part437 k0_part438 k0_part439 k0_part440 k0_part441 k0_part442 k0_part443 k0_part444 k0_part445 k0_part446 k0_part447 k0_part448 k0_part449 k0_part450 k0_part451 k0_part452 k0_part453 k0_part454 k0_part455 k0_part456 k0_part457 k0_part458 k0_part459 k0_part460 k0_part461 k0_part462 k0_part463 k0_part464 k0_part465 k0_part466 k0_part467 k0_part468 k0_part469 k0_part470 k0_part471 k0_part472 k0_part473 k0_part474 k0_part475 k0_part476 k0_part477 k0_part478 k0_part479 k0_part480
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 835 of the body. -/
theorem safe_part835 (v1 v17283 v17803 v17804 v17811 v17818 v17825 v17826 c2_i32_9026) :
    Safe defs c R (k0_part835 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v17283 v17803 v17804 v17811 v17818 v17825 v17826 c2_i32_9026) := by
  unfold k0_part835
  delta k0_part481 k0_part482 k0_part483 k0_part484 k0_part485 k0_part486 k0_part487 k0_part488 k0_part489 k0_part490 k0_part491 k0_part492 k0_part493 k0_part494 k0_part495 k0_part496 k0_part497 k0_part498 k0_part499 k0_part500 k0_part501 k0_part502 k0_part503 k0_part504 k0_part505 k0_part506 k0_part507 k0_part508 k0_part509 k0_part510 k0_part511 k0_part512 k0_part513 k0_part514 k0_part515 k0_part516 k0_part517 k0_part518 k0_part519 k0_part520 k0_part521 k0_part522 k0_part523 k0_part524 k0_part525 k0_part526 k0_part527 k0_part528 k0_part529 k0_part530 k0_part531 k0_part532 k0_part533 k0_part534 k0_part535 k0_part536 k0_part537 k0_part538 k0_part539 k0_part540
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 836 of the body. -/
theorem safe_part836 (v1 v17283 v20380 v20387 v20394 v20401 v20402 v20404) :
    Safe defs c R (k0_part836 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v17283 v20380 v20387 v20394 v20401 v20402 v20404) := by
  unfold k0_part836
  delta k0_part541 k0_part542 k0_part543 k0_part544 k0_part545 k0_part546 k0_part547 k0_part548 k0_part549 k0_part550 k0_part551 k0_part552 k0_part553 k0_part554 k0_part555 k0_part556 k0_part557 k0_part558 k0_part559 k0_part560 k0_part561 k0_part562 k0_part563 k0_part564 k0_part565 k0_part566 k0_part567 k0_part568 k0_part569 k0_part570 k0_part571 k0_part572 k0_part573 k0_part574 k0_part575 k0_part576 k0_part577 k0_part578 k0_part579 k0_part580 k0_part581 k0_part582 k0_part583 k0_part584 k0_part585 k0_part586 k0_part587 k0_part588 k0_part589 k0_part590 k0_part591 k0_part592 k0_part593 k0_part594 k0_part595 k0_part596 k0_part597 k0_part598 k0_part599 k0_part600
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 837 of the body. -/
theorem safe_part837 (v1 v5 v9) :
    Safe defs c R (k0_part837 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9) := by
  unfold k0_part837
  delta k0_part601 k0_part602 k0_part603 k0_part604 k0_part605 k0_part606 k0_part607 k0_part608 k0_part609 k0_part610 k0_part611 k0_part612 k0_part613 k0_part614 k0_part615 k0_part616 k0_part617 k0_part618 k0_part619 k0_part620 k0_part621 k0_part622 k0_part623 k0_part624 k0_part625 k0_part626 k0_part627 k0_part628 k0_part629 k0_part630 k0_part631 k0_part632 k0_part633 k0_part634 k0_part635 k0_part636 k0_part637 k0_part638 k0_part639 k0_part640 k0_part641 k0_part642 k0_part643 k0_part644 k0_part645 k0_part646 k0_part647 k0_part648 k0_part649 k0_part650 k0_part651 k0_part652 k0_part653 k0_part654 k0_part655 k0_part656 k0_part657 k0_part658 k0_part659 k0_part660
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 838 of the body. -/
theorem safe_part838 (v1 v5 v9 v24456) :
    Safe defs c R (k0_part838 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9 v24456) := by
  unfold k0_part838
  delta k0_part661 k0_part662 k0_part663 k0_part664 k0_part665 k0_part666 k0_part667 k0_part668 k0_part669 k0_part670 k0_part671 k0_part672 k0_part673 k0_part674 k0_part675 k0_part676 k0_part677 k0_part678 k0_part679 k0_part680 k0_part681 k0_part682 k0_part683 k0_part684 k0_part685 k0_part686 k0_part687 k0_part688 k0_part689 k0_part690 k0_part691 k0_part692 k0_part693 k0_part694 k0_part695 k0_part696 k0_part697 k0_part698 k0_part699 k0_part700 k0_part701 k0_part702 k0_part703 k0_part704 k0_part705 k0_part706 k0_part707 k0_part708 k0_part709 k0_part710 k0_part711 k0_part712 k0_part713 k0_part714 k0_part715 k0_part716 k0_part717 k0_part718 k0_part719 k0_part720
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 839 of the body. -/
theorem safe_part839 (v1 v24951 v26802 v26803 v26911 v26918 v26920 v26921) :
    Safe defs c R (k0_part839 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v24951 v26802 v26803 v26911 v26918 v26920 v26921) := by
  unfold k0_part839
  delta k0_part721 k0_part722 k0_part723 k0_part724 k0_part725 k0_part726 k0_part727 k0_part728 k0_part729 k0_part730 k0_part731 k0_part732 k0_part733 k0_part734 k0_part735 k0_part736 k0_part737 k0_part738 k0_part739 k0_part740 k0_part741 k0_part742 k0_part743 k0_part744 k0_part745 k0_part746 k0_part747 k0_part748 k0_part749 k0_part750 k0_part751 k0_part752 k0_part753 k0_part754 k0_part755 k0_part756 k0_part757 k0_part758 k0_part759 k0_part760 k0_part761 k0_part762 k0_part763 k0_part764 k0_part765 k0_part766 k0_part767 k0_part768 k0_part769 k0_part770 k0_part771 k0_part772 k0_part773 k0_part774 k0_part775 k0_part776 k0_part777 k0_part778 k0_part779 k0_part780
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 840 of the body. -/
theorem safe_part840 (v24951 v29403 v29404 v29512 v29519 v29521 v29522 v29523) :
    Safe defs c R (k0_part840 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v24951 v29403 v29404 v29512 v29519 v29521 v29522 v29523) := by
  unfold k0_part840
  delta k0_part781 k0_part782 k0_part783 k0_part784 k0_part785 k0_part786 k0_part787 k0_part788 k0_part789 k0_part790 k0_part791 k0_part792 k0_part793 k0_part794 k0_part795 k0_part796 k0_part797 k0_part798 k0_part799 k0_part800 k0_part801 k0_part802 k0_part803 k0_part804 k0_part805 k0_part806 k0_part807 k0_part808 k0_part809 k0_part810 k0_part811 k0_part812 k0_part813 k0_part814 k0_part815 k0_part816 k0_part817 k0_part818 k0_part819 k0_part820 k0_part821 k0_part822 k0_part823 k0_part824 k0_part825 k0_part826
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- The body. -/
theorem safe_sweep :
    Safe defs c R (cc0_sweep (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold cc0_sweep
  repeat (first
    | with_reducible exact safe_pure _
    | with_reducible exact safe_part827 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16
    | with_reducible exact safe_part828 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | with_reducible exact safe_part829 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _
    | with_reducible exact safe_part830 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _
    | with_reducible exact safe_part831 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _
    | with_reducible exact safe_part832 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | with_reducible exact safe_part833 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _ _
    | with_reducible exact safe_part834 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _
    | with_reducible exact safe_part835 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _ _
    | with_reducible exact safe_part836 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | with_reducible exact safe_part837 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _
    | with_reducible exact safe_part838 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _
    | with_reducible exact safe_part839 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | with_reducible exact safe_part840 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | (with_reducible refine safe_bind ?_ (fun _ => ?_))
    | with_reducible exact safe_load (by assumption)
    | with_reducible exact safe_store (by assumption)
    | (refine safe_for _ _ _ (fun _ _ => ?_))
    | extract_lets
    | dsimp only)

end Cert.Sweep.Body
end
-- ==== Proof.SweepRunKernel.lean ====
module

public import proofs.«01_k».proof.Proof.SweepBodyKernel
public import proofs.«01_k».proof.Proof.Gen.Sweep.Launch
public import proofs.«01_k».proof.Proof.Gen.Sweep.Points
public import proofs.«01_k».proof.Proof.Gen.Sweep.Frame
public import Idealize.ShloMosaic.Lib.Pipeline.FrameBody
public import Idealize.ShloMosaic.Lib.Claim

/-! The frame of the sweep call: it ends, its seven operands are unchanged, every semaphore is at zero. What the two results hold is
not said: every window's contents are forgotten. -/

@[expose] public section

noncomputable section

namespace Cert.Sweep.Body

open Cert.Sweep Cert.Sweep.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The seven scratch buffers. -/

abbrev scM0_0 : Memref sig .tc .vmem S1024x2816 .f32 := Memref.whole cc0_scratch0
abbrev scM0_1 : Memref sig .tc .vmem S128x2816 .i32 := Memref.whole cc0_scratch1
abbrev scM0_2 : Memref sig .tc .vmem S704x128 .f32 := Memref.whole cc0_scratch2
abbrev scM0_3 : Memref sig .tc .vmem S704x128 .f32 := Memref.whole cc0_scratch3
abbrev scM0_4 : Memref sig .tc .vmem S704x128 .f32 := Memref.whole cc0_scratch4
abbrev scM0_5 : Memref sig .tc .vmem S704x128 .f32 := Memref.whole cc0_scratch5
abbrev scM0_6 : Memref sig .tc .vmem S3x128x2816 .bf16 := Memref.whole cc0_scratch6

/-- The region's invariant: each scratch buffer owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The arrays as the region finds them; nothing named of what the body leaves; nothing owed; full shares. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with, and gives back: the invariant, what is owed, and every window at some contents. -/
def held (c : Dev nD) (t : Fin cfg0.N) : sProp 𝕄 :=
  iprop((iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-! What is held holds each of the body's sixteen memrefs. -/

theorem holds_0 (c : Dev nD) (t : Fin cfg0.N) : Holds c (held m c t) (st0_0 t) := by
  unfold Holds held
  iintro ⟨⟨⟨S0, S1, S2, S3, S4, S5, S6⟩, Hg⟩, Ho, H0, H1, H2, H3, H4, H5, H6, H7, H8⟩
  isplitl [H0]; · iexact H0
  iintro H0
  iframe
theorem holds_1 (c : Dev nD) (t : Fin cfg0.N) : Holds c (held m c t) (st0_1 t) := by
  unfold Holds held
  iintro ⟨⟨⟨S0, S1, S2, S3, S4, S5, S6⟩, Hg⟩, Ho, H0, H1, H2, H3, H4, H5, H6, H7, H8⟩
  isplitl [H1]; · iexact H1
  iintro H1
  iframe
theorem holds_2 (c : Dev nD) (t : Fin cfg0.N) : Holds c (held m c t) (st0_2 t) := by
  unfold Holds held
  iintro ⟨⟨⟨S0, S1, S2, S3, S4, S5, S6⟩, Hg⟩, Ho, H0, H1, H2, H3, H4, H5, H6, H7, H8⟩
  isplitl [H2]; · iexact H2
  iintro H2
  iframe
theorem holds_3 (c : Dev nD) (t : Fin cfg0.N) : Holds c (held m c t) (st0_3 t) := by
  unfold Holds held
  iintro ⟨⟨⟨S0, S1, S2, S3, S4, S5, S6⟩, Hg⟩, Ho, H0, H1, H2, H3, H4, H5, H6, H7, H8⟩
  isplitl [H3]; · iexact H3
  iintro H3
  iframe
theorem holds_4 (c : Dev nD) (t : Fin cfg0.N) : Holds c (held m c t) (st0_4 t) := by
  unfold Holds held
  iintro ⟨⟨⟨S0, S1, S2, S3, S4, S5, S6⟩, Hg⟩, Ho, H0, H1, H2, H3, H4, H5, H6, H7, H8⟩
  isplitl [H4]; · iexact H4
  iintro H4
  iframe
theorem holds_5 (c : Dev nD) (t : Fin cfg0.N) : Holds c (held m c t) (st0_5 t) := by
  unfold Holds held
  iintro ⟨⟨⟨S0, S1, S2, S3, S4, S5, S6⟩, Hg⟩, Ho, H0, H1, H2, H3, H4, H5, H6, H7, H8⟩
  isplitl [H5]; · iexact H5
  iintro H5
  iframe
theorem holds_6 (c : Dev nD) (t : Fin cfg0.N) : Holds c (held m c t) (st0_6 t) := by
  unfold Holds held
  iintro ⟨⟨⟨S0, S1, S2, S3, S4, S5, S6⟩, Hg⟩, Ho, H0, H1, H2, H3, H4, H5, H6, H7, H8⟩
  isplitl [H6]; · iexact H6
  iintro H6
  iframe
theorem holds_7 (c : Dev nD) (t : Fin cfg0.N) : Holds c (held m c t) (st0_7 t) := by
  unfold Holds held
  iintro ⟨⟨⟨S0, S1, S2, S3, S4, S5, S6⟩, Hg⟩, Ho, H0, H1, H2, H3, H4, H5, H6, H7, H8⟩
  isplitl [H7]; · iexact H7
  iintro H7
  iframe
theorem holds_8 (c : Dev nD) (t : Fin cfg0.N) : Holds c (held m c t) (st0_8 t) := by
  unfold Holds held
  iintro ⟨⟨⟨S0, S1, S2, S3, S4, S5, S6⟩, Hg⟩, Ho, H0, H1, H2, H3, H4, H5, H6, H7, H8⟩
  isplitl [H8]; · iexact H8
  iintro H8
  iframe
theorem holds_scratch0 (c : Dev nD) (t : Fin cfg0.N) : Holds c (held m c t) scM0_0 := by
  unfold Holds held
  iintro ⟨⟨⟨S0, S1, S2, S3, S4, S5, S6⟩, Hg⟩, Ho, H0, H1, H2, H3, H4, H5, H6, H7, H8⟩
  isplitl [S0]; · iexact S0
  iintro S0
  iframe
theorem holds_scratch1 (c : Dev nD) (t : Fin cfg0.N) : Holds c (held m c t) scM0_1 := by
  unfold Holds held
  iintro ⟨⟨⟨S0, S1, S2, S3, S4, S5, S6⟩, Hg⟩, Ho, H0, H1, H2, H3, H4, H5, H6, H7, H8⟩
  isplitl [S1]; · iexact S1
  iintro S1
  iframe
theorem holds_scratch2 (c : Dev nD) (t : Fin cfg0.N) : Holds c (held m c t) scM0_2 := by
  unfold Holds held
  iintro ⟨⟨⟨S0, S1, S2, S3, S4, S5, S6⟩, Hg⟩, Ho, H0, H1, H2, H3, H4, H5, H6, H7, H8⟩
  isplitl [S2]; · iexact S2
  iintro S2
  iframe
theorem holds_scratch3 (c : Dev nD) (t : Fin cfg0.N) : Holds c (held m c t) scM0_3 := by
  unfold Holds held
  iintro ⟨⟨⟨S0, S1, S2, S3, S4, S5, S6⟩, Hg⟩, Ho, H0, H1, H2, H3, H4, H5, H6, H7, H8⟩
  isplitl [S3]; · iexact S3
  iintro S3
  iframe
theorem holds_scratch4 (c : Dev nD) (t : Fin cfg0.N) : Holds c (held m c t) scM0_4 := by
  unfold Holds held
  iintro ⟨⟨⟨S0, S1, S2, S3, S4, S5, S6⟩, Hg⟩, Ho, H0, H1, H2, H3, H4, H5, H6, H7, H8⟩
  isplitl [S4]; · iexact S4
  iintro S4
  iframe
theorem holds_scratch5 (c : Dev nD) (t : Fin cfg0.N) : Holds c (held m c t) scM0_5 := by
  unfold Holds held
  iintro ⟨⟨⟨S0, S1, S2, S3, S4, S5, S6⟩, Hg⟩, Ho, H0, H1, H2, H3, H4, H5, H6, H7, H8⟩
  isplitl [S5]; · iexact S5
  iintro S5
  iframe
theorem holds_scratch6 (c : Dev nD) (t : Fin cfg0.N) : Holds c (held m c t) scM0_6 := by
  unfold Holds held
  iintro ⟨⟨⟨S0, S1, S2, S3, S4, S5, S6⟩, Hg⟩, Ho, H0, H1, H2, H3, H4, H5, H6, H7, H8⟩
  isplitl [S6]; · iexact S6
  iintro S6
  iframe

/-- The body at point `t`. -/
theorem sound_body (c : Dev nD) (t : Fin cfg0.N) : Safe (defs₀ (F := F)) c (held m c t) (bodyAt0 t) :=
  safe_sweep _ _ _ _ _ _ _ _ _ _ _ _ _ _ _ _ _ _ _ _ _ _ _ _ _ _ _ _ _ _ _ _ _ (holds_0 m c t) (holds_1 m c t) (holds_2 m c t) (holds_3 m c t) (holds_4 m c t) (holds_5 m c t) (holds_6 m c t) (holds_7 m c t) (holds_8 m c t)
    (holds_scratch0 m c t) (holds_scratch1 m c t) (holds_scratch2 m c t) (holds_scratch3 m c t) (holds_scratch4 m c t) (holds_scratch5 m c t) (holds_scratch6 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, every window forgotten. -/
theorem body_obligation (c : Dev nD) :
    BodyObligation (dats (F := F) m 0 c) (defs₀ (F := F)) Variants.none () Set.univ (fun _ => true) := fun t => by
  have h := sound_body m c t
  unfold Safe held at h
  rw [← PhiA0_eq] at h
  rw [bigSep_W0, defs₀_row]
  exact triple_restated h rfl .rfl fun _ => .rfl

set_option backward.isDefEq.respectTransparency.types false in
/-- The whole run: the operands at what it was, every semaphore at zero. -/
theorem run_main : θ_run defs (onTc (τ := τ) (main (F := F))) (s₀ m ρ) (fun r =>
      RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame claim: it ends, its operands are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    (h.1.arr_in c 4 rfl).trans ((A_eq m c 4).trans (V_main_arg4 m c)),
    (h.1.arr_in c 5 rfl).trans ((A_eq m c 5).trans (V_main_arg5 m c)),
    (h.1.arr_in c 6 rfl).trans ((A_eq m c 6).trans (V_main_arg6 m c))⟩, h.2⟩) (run_main m ρ)

end Cert.Sweep.Body
end
-- ==== Proof.SweepBody.lean ====
module

public import proofs.«01_k».proof.Proof.Safe
public import proofs.«01_k».proof.SweepIdeal

/-! The body of the sweep call, part by part as it is printed, is `Safe` for any `R` that holds its sixteen memrefs. Each part is
a run of loads, stores, pure values and calls of smaller parts, so each proof only walks over the statements. -/

@[expose] public section

noncomputable section

namespace Cert.SweepIdeal.Body

open Cert.SweepIdeal Cert.Safe
open Idealize.ShloMosaic Idealize.ShloMosaic.TcCoe
open Idealize.SL Idealize.SL.RA Idealize.SL.BI Idealize.SL.Sem
open Idealize.ShloMosaic.Rounds

variable {F : FTy → Type} [FloatOps F] {U : Type} [URA U]
variable [Facts]
variable {defs : Defs nD τ sig (Elt F) Λ₀} {c : Dev nD} {R : sProp (MT nD τ sig Unit (Elt F) ℕ U ℕ)}

variable (i : grid0.Coords) (arg1 : Memref sig .tc .smem S32768 .f32) (harg1 : arg1.IsWhole) (arg2 : Memref sig .tc .smem S1024 .f32) (harg2 : arg2.IsWhole) (arg3 : Memref sig .tc .vmem S128x2816 .bf16) (harg3 : arg3.IsWhole) (arg4 : Memref sig .tc .vmem S128x2816 .i8) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S128x2816 .f32) (harg8 : arg8.IsWhole) (arg9 : Memref sig .tc .vmem S128x2816 .f32) (harg9 : arg9.IsWhole) (arg10 : Memref sig .tc .vmem S1024x2816 .f32) (harg10 : arg10.IsWhole) (arg11 : Memref sig .tc .vmem S128x2816 .i32) (harg11 : arg11.IsWhole) (arg12 : Memref sig .tc .vmem S704x128 .f32) (harg12 : arg12.IsWhole) (arg13 : Memref sig .tc .vmem S704x128 .f32) (harg13 : arg13.IsWhole) (arg14 : Memref sig .tc .vmem S704x128 .f32) (harg14 : arg14.IsWhole) (arg15 : Memref sig .tc .vmem S704x128 .f32) (harg15 : arg15.IsWhole) (arg16 : Memref sig .tc .vmem S3x128x2816 .bf16) (harg16 : arg16.IsWhole)
variable (h1 : Holds c R arg1) (h2 : Holds c R arg2) (h3 : Holds c R arg3) (h4 : Holds c R arg4) (h5 : Holds c R arg5) (h6 : Holds c R arg6) (h7 : Holds c R arg7) (h8 : Holds c R arg8) (h9 : Holds c R arg9) (h10 : Holds c R arg10) (h11 : Holds c R arg11) (h12 : Holds c R arg12) (h13 : Holds c R arg13) (h14 : Holds c R arg14) (h15 : Holds c R arg15) (h16 : Holds c R arg16)

include h1 h2 h3 h4 h5 h6 h7 h8 h9 h10 h11 h12 h13 h14 h15 h16 in
/-- Part 827 of the body. -/
theorem safe_part827 :
    Safe defs c R (k0_part827 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold k0_part827
  delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60
  repeat (first
    | with_reducible exact safe_pure _
    | (with_reducible refine safe_bind ?_ (fun _ => ?_))
    | with_reducible exact safe_load (by assumption)
    | with_reducible exact safe_store (by assumption)
    | (with_reducible refine safe_dite (fun _ => ?_) (fun _ => ?_))
    | extract_lets
    | dsimp only
    | exact safe_word (by assumption))

include h1 h2 h3 h4 h5 h6 h7 h8 h9 h10 h11 h12 h13 h14 h15 h16 in
/-- Part 828 of the body. -/
theorem safe_part828 (v1 v1947 v2195 v2202 v2209 v2210 v2217 v2222) :
    Safe defs c R (k0_part828 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v1947 v2195 v2202 v2209 v2210 v2217 v2222) := by
  unfold k0_part828
  delta k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 829 of the body. -/
theorem safe_part829 (v1 v1947 v4754 v4761 v4768 v4775 v4776) :
    Safe defs c R (k0_part829 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v1947 v4754 v4761 v4768 v4775 v4776) := by
  unfold k0_part829
  delta k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 830 of the body. -/
theorem safe_part830 (v1 v5 v9 v6958) :
    Safe defs c R (k0_part830 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9 v6958) := by
  unfold k0_part830
  delta k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 831 of the body. -/
theorem safe_part831 (v1 v5 v9) :
    Safe defs c R (k0_part831 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9) := by
  unfold k0_part831
  delta k0_part241 k0_part242 k0_part243 k0_part244 k0_part245 k0_part246 k0_part247 k0_part248 k0_part249 k0_part250 k0_part251 k0_part252 k0_part253 k0_part254 k0_part255 k0_part256 k0_part257 k0_part258 k0_part259 k0_part260 k0_part261 k0_part262 k0_part263 k0_part264 k0_part265 k0_part266 k0_part267 k0_part268 k0_part269 k0_part270 k0_part271 k0_part272 k0_part273 k0_part274 k0_part275 k0_part276 k0_part277 k0_part278 k0_part279 k0_part280 k0_part281 k0_part282 k0_part283 k0_part284 k0_part285 k0_part286 k0_part287 k0_part288 k0_part289 k0_part290 k0_part291 k0_part292 k0_part293 k0_part294 k0_part295 k0_part296 k0_part297 k0_part298 k0_part299 k0_part300
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 832 of the body. -/
theorem safe_part832 (v1 v9615 v11275 v11282 v11289 v11290 v11297 v11301) :
    Safe defs c R (k0_part832 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v9615 v11275 v11282 v11289 v11290 v11297 v11301) := by
  unfold k0_part832
  delta k0_part301 k0_part302 k0_part303 k0_part304 k0_part305 k0_part306 k0_part307 k0_part308 k0_part309 k0_part310 k0_part311 k0_part312 k0_part313 k0_part314 k0_part315 k0_part316 k0_part317 k0_part318 k0_part319 k0_part320 k0_part321 k0_part322 k0_part323 k0_part324 k0_part325 k0_part326 k0_part327 k0_part328 k0_part329 k0_part330 k0_part331 k0_part332 k0_part333 k0_part334 k0_part335 k0_part336 k0_part337 k0_part338 k0_part339 k0_part340 k0_part341 k0_part342 k0_part343 k0_part344 k0_part345 k0_part346 k0_part347 k0_part348 k0_part349 k0_part350 k0_part351 k0_part352 k0_part353 k0_part354 k0_part355 k0_part356 k0_part357 k0_part358 k0_part359 k0_part360
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 833 of the body. -/
theorem safe_part833 (v1 v5 v9 v9615 v13883 v13890 v13891 v13898 v13905) :
    Safe defs c R (k0_part833 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9 v9615 v13883 v13890 v13891 v13898 v13905) := by
  unfold k0_part833
  delta k0_part361 k0_part362 k0_part363 k0_part364 k0_part365 k0_part366 k0_part367 k0_part368 k0_part369 k0_part370 k0_part371 k0_part372 k0_part373 k0_part374 k0_part375 k0_part376 k0_part377 k0_part378 k0_part379 k0_part380 k0_part381 k0_part382 k0_part383 k0_part384 k0_part385 k0_part386 k0_part387 k0_part388 k0_part389 k0_part390 k0_part391 k0_part392 k0_part393 k0_part394 k0_part395 k0_part396 k0_part397 k0_part398 k0_part399 k0_part400 k0_part401 k0_part402 k0_part403 k0_part404 k0_part405 k0_part406 k0_part407 k0_part408 k0_part409 k0_part410 k0_part411 k0_part412 k0_part413 k0_part414 k0_part415 k0_part416 k0_part417 k0_part418 k0_part419 k0_part420
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 834 of the body. -/
theorem safe_part834 (v1 v5 v9 v15567 v15571 v15577) :
    Safe defs c R (k0_part834 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9 v15567 v15571 v15577) := by
  unfold k0_part834
  delta k0_part421 k0_part422 k0_part423 k0_part424 k0_part425 k0_part426 k0_part427 k0_part428 k0_part429 k0_part430 k0_part431 k0_part432 k0_part433 k0_part434 k0_part435 k0_part436 k0_part437 k0_part438 k0_part439 k0_part440 k0_part441 k0_part442 k0_part443 k0_part444 k0_part445 k0_part446 k0_part447 k0_part448 k0_part449 k0_part450 k0_part451 k0_part452 k0_part453 k0_part454 k0_part455 k0_part456 k0_part457 k0_part458 k0_part459 k0_part460 k0_part461 k0_part462 k0_part463 k0_part464 k0_part465 k0_part466 k0_part467 k0_part468 k0_part469 k0_part470 k0_part471 k0_part472 k0_part473 k0_part474 k0_part475 k0_part476 k0_part477 k0_part478 k0_part479 k0_part480
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 835 of the body. -/
theorem safe_part835 (v1 v17283 v17803 v17804 v17811 v17818 v17825 v17826 c2_i32_9026) :
    Safe defs c R (k0_part835 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v17283 v17803 v17804 v17811 v17818 v17825 v17826 c2_i32_9026) := by
  unfold k0_part835
  delta k0_part481 k0_part482 k0_part483 k0_part484 k0_part485 k0_part486 k0_part487 k0_part488 k0_part489 k0_part490 k0_part491 k0_part492 k0_part493 k0_part494 k0_part495 k0_part496 k0_part497 k0_part498 k0_part499 k0_part500 k0_part501 k0_part502 k0_part503 k0_part504 k0_part505 k0_part506 k0_part507 k0_part508 k0_part509 k0_part510 k0_part511 k0_part512 k0_part513 k0_part514 k0_part515 k0_part516 k0_part517 k0_part518 k0_part519 k0_part520 k0_part521 k0_part522 k0_part523 k0_part524 k0_part525 k0_part526 k0_part527 k0_part528 k0_part529 k0_part530 k0_part531 k0_part532 k0_part533 k0_part534 k0_part535 k0_part536 k0_part537 k0_part538 k0_part539 k0_part540
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 836 of the body. -/
theorem safe_part836 (v1 v17283 v20380 v20387 v20394 v20401 v20402 v20404) :
    Safe defs c R (k0_part836 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v17283 v20380 v20387 v20394 v20401 v20402 v20404) := by
  unfold k0_part836
  delta k0_part541 k0_part542 k0_part543 k0_part544 k0_part545 k0_part546 k0_part547 k0_part548 k0_part549 k0_part550 k0_part551 k0_part552 k0_part553 k0_part554 k0_part555 k0_part556 k0_part557 k0_part558 k0_part559 k0_part560 k0_part561 k0_part562 k0_part563 k0_part564 k0_part565 k0_part566 k0_part567 k0_part568 k0_part569 k0_part570 k0_part571 k0_part572 k0_part573 k0_part574 k0_part575 k0_part576 k0_part577 k0_part578 k0_part579 k0_part580 k0_part581 k0_part582 k0_part583 k0_part584 k0_part585 k0_part586 k0_part587 k0_part588 k0_part589 k0_part590 k0_part591 k0_part592 k0_part593 k0_part594 k0_part595 k0_part596 k0_part597 k0_part598 k0_part599 k0_part600
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 837 of the body. -/
theorem safe_part837 (v1 v5 v9) :
    Safe defs c R (k0_part837 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9) := by
  unfold k0_part837
  delta k0_part601 k0_part602 k0_part603 k0_part604 k0_part605 k0_part606 k0_part607 k0_part608 k0_part609 k0_part610 k0_part611 k0_part612 k0_part613 k0_part614 k0_part615 k0_part616 k0_part617 k0_part618 k0_part619 k0_part620 k0_part621 k0_part622 k0_part623 k0_part624 k0_part625 k0_part626 k0_part627 k0_part628 k0_part629 k0_part630 k0_part631 k0_part632 k0_part633 k0_part634 k0_part635 k0_part636 k0_part637 k0_part638 k0_part639 k0_part640 k0_part641 k0_part642 k0_part643 k0_part644 k0_part645 k0_part646 k0_part647 k0_part648 k0_part649 k0_part650 k0_part651 k0_part652 k0_part653 k0_part654 k0_part655 k0_part656 k0_part657 k0_part658 k0_part659 k0_part660
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 838 of the body. -/
theorem safe_part838 (v1 v5 v9 v24456) :
    Safe defs c R (k0_part838 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v5 v9 v24456) := by
  unfold k0_part838
  delta k0_part661 k0_part662 k0_part663 k0_part664 k0_part665 k0_part666 k0_part667 k0_part668 k0_part669 k0_part670 k0_part671 k0_part672 k0_part673 k0_part674 k0_part675 k0_part676 k0_part677 k0_part678 k0_part679 k0_part680 k0_part681 k0_part682 k0_part683 k0_part684 k0_part685 k0_part686 k0_part687 k0_part688 k0_part689 k0_part690 k0_part691 k0_part692 k0_part693 k0_part694 k0_part695 k0_part696 k0_part697 k0_part698 k0_part699 k0_part700 k0_part701 k0_part702 k0_part703 k0_part704 k0_part705 k0_part706 k0_part707 k0_part708 k0_part709 k0_part710 k0_part711 k0_part712 k0_part713 k0_part714 k0_part715 k0_part716 k0_part717 k0_part718 k0_part719 k0_part720
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 839 of the body. -/
theorem safe_part839 (v1 v24951 v26802 v26803 v26911 v26918 v26920 v26921) :
    Safe defs c R (k0_part839 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v1 v24951 v26802 v26803 v26911 v26918 v26920 v26921) := by
  unfold k0_part839
  delta k0_part721 k0_part722 k0_part723 k0_part724 k0_part725 k0_part726 k0_part727 k0_part728 k0_part729 k0_part730 k0_part731 k0_part732 k0_part733 k0_part734 k0_part735 k0_part736 k0_part737 k0_part738 k0_part739 k0_part740 k0_part741 k0_part742 k0_part743 k0_part744 k0_part745 k0_part746 k0_part747 k0_part748 k0_part749 k0_part750 k0_part751 k0_part752 k0_part753 k0_part754 k0_part755 k0_part756 k0_part757 k0_part758 k0_part759 k0_part760 k0_part761 k0_part762 k0_part763 k0_part764 k0_part765 k0_part766 k0_part767 k0_part768 k0_part769 k0_part770 k0_part771 k0_part772 k0_part773 k0_part774 k0_part775 k0_part776 k0_part777 k0_part778 k0_part779 k0_part780
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- Part 840 of the body. -/
theorem safe_part840 (v24951 v29403 v29404 v29512 v29519 v29521 v29522 v29523) :
    Safe defs c R (k0_part840 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v24951 v29403 v29404 v29512 v29519 v29521 v29522 v29523) := by
  unfold k0_part840
  delta k0_part781 k0_part782 k0_part783 k0_part784 k0_part785 k0_part786 k0_part787 k0_part788 k0_part789 k0_part790 k0_part791 k0_part792 k0_part793 k0_part794 k0_part795 k0_part796 k0_part797 k0_part798 k0_part799 k0_part800 k0_part801 k0_part802 k0_part803 k0_part804 k0_part805 k0_part806 k0_part807 k0_part808 k0_part809 k0_part810 k0_part811 k0_part812 k0_part813 k0_part814 k0_part815 k0_part816 k0_part817 k0_part818 k0_part819 k0_part820 k0_part821 k0_part822 k0_part823 k0_part824 k0_part825 k0_part826
  repeat (first
    | with_reducible exact safe_pure _
    | (with_reducible refine safe_bind ?_ (fun _ => ?_))
    | with_reducible exact safe_load (by assumption)
    | with_reducible exact safe_store (by assumption)
    | extract_lets
    | dsimp only
    | exact safe_word (by assumption))

include h1 h2 h3 h4 h5 h6 h7 h8 h9 h10 h11 h12 h13 h14 h15 h16 in
/-- The body. -/
theorem safe_sweep :
    Safe defs c R (cc0_sweep (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) := by
  unfold cc0_sweep
  repeat (first
    | with_reducible exact safe_pure _
    | with_reducible exact safe_part827 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16
    | with_reducible exact safe_part828 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | with_reducible exact safe_part829 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _
    | with_reducible exact safe_part830 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _
    | with_reducible exact safe_part831 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _
    | with_reducible exact safe_part832 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | with_reducible exact safe_part833 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _ _
    | with_reducible exact safe_part834 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _
    | with_reducible exact safe_part835 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _ _
    | with_reducible exact safe_part836 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | with_reducible exact safe_part837 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _
    | with_reducible exact safe_part838 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _
    | with_reducible exact safe_part839 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | with_reducible exact safe_part840 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 h3 h4 h5 h6 h7 h8 h9 h10 h11 h12 h13 h14 h15 h16 _ _ _ _ _ _ _ _
    | (with_reducible refine safe_bind ?_ (fun _ => ?_))
    | with_reducible exact safe_load (by assumption)
    | with_reducible exact safe_store (by assumption)
    | (refine safe_for _ _ _ (fun _ _ => ?_))
    | extract_lets
    | dsimp only)

end Cert.SweepIdeal.Body
end
-- ==== Proof.SweepRun.lean ====
module

public import proofs.«01_k».proof.Proof.SweepBody
public import proofs.«01_k».proof.Proof.Gen.SweepIdeal.Launch
public import proofs.«01_k».proof.Proof.Gen.SweepIdeal.Points
public import proofs.«01_k».proof.Proof.Gen.SweepIdeal.Frame
public import Idealize.ShloMosaic.Lib.Pipeline.FrameBody
public import Idealize.ShloMosaic.Lib.Claim

/-! The frame of the sweep call: it ends, its seven operands are unchanged, every semaphore is at zero. What the two results hold is
not said: every window's contents are forgotten. -/

@[expose] public section

noncomputable section

namespace Cert.SweepIdeal.Body

open Cert.SweepIdeal Cert.SweepIdeal.Gen Cert.Safe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The seven scratch buffers. -/

abbrev scM0_0 : Memref sig .tc .vmem S1024x2816 .f32 := Memref.whole cc0_scratch0
abbrev scM0_1 : Memref sig .tc .vmem S128x2816 .i32 := Memref.whole cc0_scratch1
abbrev scM0_2 : Memref sig .tc .vmem S704x128 .f32 := Memref.whole cc0_scratch2
abbrev scM0_3 : Memref sig .tc .vmem S704x128 .f32 := Memref.whole cc0_scratch3
abbrev scM0_4 : Memref sig .tc .vmem S704x128 .f32 := Memref.whole cc0_scratch4
abbrev scM0_5 : Memref sig .tc .vmem S704x128 .f32 := Memref.whole cc0_scratch5
abbrev scM0_6 : Memref sig .tc .vmem S3x128x2816 .bf16 := Memref.whole cc0_scratch6

/-- The region's invariant: each scratch buffer owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The arrays as the region finds them; nothing named of what the body leaves; nothing owed; full shares. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with, and gives back: the invariant, what is owed, and every window at some contents. -/
def held (c : Dev nD) (t : Fin cfg0.N) : sProp 𝕄 :=
  iprop((iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) ∗ (dats m 0 c).owesAt () t.castSucc
    ∗ (∃ d, owns (c : Thread nD τ) (st0_0 t) fullShare d)
    ∗ (∃ d, owns (c : Thread nD τ) (st0_1 t) fullShare d)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-! What is held holds each of the body's sixteen memrefs. -/

theorem holds_0 (c : Dev nD) (t : Fin cfg0.N) : Holds c (held m c t) (st0_0 t) := by
  unfold Holds held
  iintro ⟨⟨⟨S0, S1, S2, S3, S4, S5, S6⟩, Hg⟩, Ho, H0, H1, H2, H3, H4, H5, H6, H7, H8⟩
  isplitl [H0]; · iexact H0
  iintro H0
  iframe
theorem holds_1 (c : Dev nD) (t : Fin cfg0.N) : Holds c (held m c t) (st0_1 t) := by
  unfold Holds held
  iintro ⟨⟨⟨S0, S1, S2, S3, S4, S5, S6⟩, Hg⟩, Ho, H0, H1, H2, H3, H4, H5, H6, H7, H8⟩
  isplitl [H1]; · iexact H1
  iintro H1
  iframe
theorem holds_2 (c : Dev nD) (t : Fin cfg0.N) : Holds c (held m c t) (st0_2 t) := by
  unfold Holds held
  iintro ⟨⟨⟨S0, S1, S2, S3, S4, S5, S6⟩, Hg⟩, Ho, H0, H1, H2, H3, H4, H5, H6, H7, H8⟩
  isplitl [H2]; · iexact H2
  iintro H2
  iframe
theorem holds_3 (c : Dev nD) (t : Fin cfg0.N) : Holds c (held m c t) (st0_3 t) := by
  unfold Holds held
  iintro ⟨⟨⟨S0, S1, S2, S3, S4, S5, S6⟩, Hg⟩, Ho, H0, H1, H2, H3, H4, H5, H6, H7, H8⟩
  isplitl [H3]; · iexact H3
  iintro H3
  iframe
theorem holds_4 (c : Dev nD) (t : Fin cfg0.N) : Holds c (held m c t) (st0_4 t) := by
  unfold Holds held
  iintro ⟨⟨⟨S0, S1, S2, S3, S4, S5, S6⟩, Hg⟩, Ho, H0, H1, H2, H3, H4, H5, H6, H7, H8⟩
  isplitl [H4]; · iexact H4
  iintro H4
  iframe
theorem holds_5 (c : Dev nD) (t : Fin cfg0.N) : Holds c (held m c t) (st0_5 t) := by
  unfold Holds held
  iintro ⟨⟨⟨S0, S1, S2, S3, S4, S5, S6⟩, Hg⟩, Ho, H0, H1, H2, H3, H4, H5, H6, H7, H8⟩
  isplitl [H5]; · iexact H5
  iintro H5
  iframe
theorem holds_6 (c : Dev nD) (t : Fin cfg0.N) : Holds c (held m c t) (st0_6 t) := by
  unfold Holds held
  iintro ⟨⟨⟨S0, S1, S2, S3, S4, S5, S6⟩, Hg⟩, Ho, H0, H1, H2, H3, H4, H5, H6, H7, H8⟩
  isplitl [H6]; · iexact H6
  iintro H6
  iframe
theorem holds_7 (c : Dev nD) (t : Fin cfg0.N) : Holds c (held m c t) (st0_7 t) := by
  unfold Holds held
  iintro ⟨⟨⟨S0, S1, S2, S3, S4, S5, S6⟩, Hg⟩, Ho, H0, H1, H2, H3, H4, H5, H6, H7, H8⟩
  isplitl [H7]; · iexact H7
  iintro H7
  iframe
theorem holds_8 (c : Dev nD) (t : Fin cfg0.N) : Holds c (held m c t) (st0_8 t) := by
  unfold Holds held
  iintro ⟨⟨⟨S0, S1, S2, S3, S4, S5, S6⟩, Hg⟩, Ho, H0, H1, H2, H3, H4, H5, H6, H7, H8⟩
  isplitl [H8]; · iexact H8
  iintro H8
  iframe
theorem holds_scratch0 (c : Dev nD) (t : Fin cfg0.N) : Holds c (held m c t) scM0_0 := by
  unfold Holds held
  iintro ⟨⟨⟨S0, S1, S2, S3, S4, S5, S6⟩, Hg⟩, Ho, H0, H1, H2, H3, H4, H5, H6, H7, H8⟩
  isplitl [S0]; · iexact S0
  iintro S0
  iframe
theorem holds_scratch1 (c : Dev nD) (t : Fin cfg0.N) : Holds c (held m c t) scM0_1 := by
  unfold Holds held
  iintro ⟨⟨⟨S0, S1, S2, S3, S4, S5, S6⟩, Hg⟩, Ho, H0, H1, H2, H3, H4, H5, H6, H7, H8⟩
  isplitl [S1]; · iexact S1
  iintro S1
  iframe
theorem holds_scratch2 (c : Dev nD) (t : Fin cfg0.N) : Holds c (held m c t) scM0_2 := by
  unfold Holds held
  iintro ⟨⟨⟨S0, S1, S2, S3, S4, S5, S6⟩, Hg⟩, Ho, H0, H1, H2, H3, H4, H5, H6, H7, H8⟩
  isplitl [S2]; · iexact S2
  iintro S2
  iframe
theorem holds_scratch3 (c : Dev nD) (t : Fin cfg0.N) : Holds c (held m c t) scM0_3 := by
  unfold Holds held
  iintro ⟨⟨⟨S0, S1, S2, S3, S4, S5, S6⟩, Hg⟩, Ho, H0, H1, H2, H3, H4, H5, H6, H7, H8⟩
  isplitl [S3]; · iexact S3
  iintro S3
  iframe
theorem holds_scratch4 (c : Dev nD) (t : Fin cfg0.N) : Holds c (held m c t) scM0_4 := by
  unfold Holds held
  iintro ⟨⟨⟨S0, S1, S2, S3, S4, S5, S6⟩, Hg⟩, Ho, H0, H1, H2, H3, H4, H5, H6, H7, H8⟩
  isplitl [S4]; · iexact S4
  iintro S4
  iframe
theorem holds_scratch5 (c : Dev nD) (t : Fin cfg0.N) : Holds c (held m c t) scM0_5 := by
  unfold Holds held
  iintro ⟨⟨⟨S0, S1, S2, S3, S4, S5, S6⟩, Hg⟩, Ho, H0, H1, H2, H3, H4, H5, H6, H7, H8⟩
  isplitl [S5]; · iexact S5
  iintro S5
  iframe
theorem holds_scratch6 (c : Dev nD) (t : Fin cfg0.N) : Holds c (held m c t) scM0_6 := by
  unfold Holds held
  iintro ⟨⟨⟨S0, S1, S2, S3, S4, S5, S6⟩, Hg⟩, Ho, H0, H1, H2, H3, H4, H5, H6, H7, H8⟩
  isplitl [S6]; · iexact S6
  iintro S6
  iframe

/-- The body at point `t`. -/
theorem sound_body (c : Dev nD) (t : Fin cfg0.N) : Safe (defs₀ (F := F)) c (held m c t) (bodyAt0 t) :=
  safe_sweep _ _ _ _ _ _ _ _ _ _ _ _ _ _ _ _ _ _ _ _ _ _ _ _ _ _ _ _ _ _ _ _ _ (holds_0 m c t) (holds_1 m c t) (holds_2 m c t) (holds_3 m c t) (holds_4 m c t) (holds_5 m c t) (holds_6 m c t) (holds_7 m c t) (holds_8 m c t)
    (holds_scratch0 m c t) (holds_scratch1 m c t) (holds_scratch2 m c t) (holds_scratch3 m c t) (holds_scratch4 m c t) (holds_scratch5 m c t) (holds_scratch6 m c t)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, every window forgotten. -/
theorem body_obligation (c : Dev nD) :
    BodyObligation (dats (F := F) m 0 c) (defs₀ (F := F)) Variants.none () Set.univ (fun _ => true) := fun t => by
  have h := sound_body m c t
  unfold Safe held at h
  rw [← PhiA0_eq] at h
  rw [bigSep_W0, defs₀_row]
  exact triple_restated h rfl .rfl fun _ => .rfl

set_option backward.isDefEq.respectTransparency.types false in
/-- The whole run: the operands at what it was, every semaphore at zero. -/
theorem run_main : θ_run defs (onTc (τ := τ) (main (F := F))) (s₀ m ρ) (fun r =>
      RDat.FramePost cfg0 (fun c => (dats m 0 c).toRForget fun _ => true) (V m) r ∧ r.2.sem = fun _ => 0) :=
  Pipeline.θ_run_frame_forget (Q' := _) cfgs (dats m) (0 : Fin 1) launch0 defs₀ Variants.none (fun _ => true) m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame claim: it ends, its operands are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    (h.1.arr_in c 4 rfl).trans ((A_eq m c 4).trans (V_main_arg4 m c)),
    (h.1.arr_in c 5 rfl).trans ((A_eq m c 5).trans (V_main_arg5 m c)),
    (h.1.arr_in c 6 rfl).trans ((A_eq m c 6).trans (V_main_arg6 m c))⟩, h.2⟩) (run_main m ρ)

end Cert.SweepIdeal.Body
end
-- ==== Proof.lean ====
/- The proof of the claim: the program and its idealization run, leave the tokens alone and end quiescent; so does the
   reference; and the idealization's result is the reference's, the Gram matrix of the tokens in its 256-blocks on and
   under the diagonal, zero in the blocks above. And the factor call and its idealization run, leave their argument alone and
   end quiescent; so do the sweep call and its idealization. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.GramRunKernel
public import proofs.«01_k».proof.Proof.GramValue
public import proofs.«01_k».proof.Proof.RefValue
public import proofs.«01_k».proof.Proof.FactorRunKernel
public import proofs.«01_k».proof.Proof.FactorRun
public import proofs.«01_k».proof.Proof.Gen.Factor
public import proofs.«01_k».proof.Proof.Gen.FactorIdeal
public import proofs.«01_k».proof.Proof.SweepRunKernel
public import proofs.«01_k».proof.Proof.SweepRun
public import proofs.«01_k».proof.Proof.Gen.Sweep
public import proofs.«01_k».proof.Proof.Gen.SweepIdeal
public import Idealize.ShloMosaic.Adequacy
public import Idealize.ShloMosaic.Init

@[expose] public section

noncomputable section

namespace Cert.Proof

open Idealize.ShloMosaic Idealize.ShloMosaic.TcCoe Idealize.SL.Sem

/-- The program runs, leaves the tokens as they were and ends quiescent. -/
theorem kernel_frame : Cert.quiescent_Kernel := fun m ρ _ => Cert.Kernel.Gram.frame m ρ

/-- So does its idealization. -/
theorem ideal_frame : Cert.quiescent_KernelIdeal := fun m ρ _ => Cert.KernelIdeal.Gram.frame m ρ

/-- So does the reference, which has no semaphore at all. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The factor call runs, leaves its argument as it was and ends quiescent. -/
theorem factor_frame : Cert.quiescent_Factor := fun m ρ _ => Cert.Factor.Body.frame m ρ

/-- So does its idealization. -/
theorem factor_ideal_frame : Cert.quiescent_FactorIdeal := fun m ρ _ => Cert.FactorIdeal.Body.frame m ρ

/-- The sweep call runs, leaves its operands as they were and ends quiescent. -/
theorem sweep_frame : Cert.quiescent_Sweep := fun m ρ _ => Cert.Sweep.Body.frame m ρ

/-- So does its idealization. -/
theorem sweep_ideal_frame : Cert.quiescent_SweepIdeal := fun m ρ _ => Cert.SweepIdeal.Body.frame m ρ

/-- The idealization and the reference end with one result. -/
theorem same_result : Cert.algebraic_KernelIdeal_ReferenceIdeal := fun m ρ m' ρ' _ hargs =>
  ⟨fun c => (Cert.KernelIdeal.Gram.gramOf (Cert.KernelIdeal.Gram.tok m c) : Cert.KernelIdeal.S1024x1024.Idx → EReal),
    (θ_run Cert.KernelIdeal.defs _ _).mono
      (fun _ h c => ⟨(h c).1.trans (Cert.KernelIdeal.Gram.arr_final m c), (h c).2⟩)
      (Cert.KernelIdeal.Gram.run_value m ρ),
    (θ_run Cert.ReferenceIdeal.defs _ _).mono
      (fun _ h c => ⟨(h c).1.trans ((Cert.ReferenceIdeal.Gram.ref_eq _).trans
        (congrArg (fun X => (Cert.KernelIdeal.Gram.gramOf X : Cert.KernelIdeal.S1024x1024.Idx → EReal)) (hargs c))), (h c).2⟩)
      (Cert.ReferenceIdeal.Value.run m' ρ')⟩

theorem claim : Cert.Claim := ⟨Cert.Kernel.Gen.facts, Cert.KernelIdeal.Gen.facts, Cert.ReferenceIdeal.Gen.facts, Cert.Factor.Gen.facts,
  Cert.FactorIdeal.Gen.facts, Cert.Sweep.Gen.facts, Cert.SweepIdeal.Gen.facts, kernel_frame, ideal_frame, reference_frame,
  factor_frame, factor_ideal_frame, sweep_frame, sweep_ideal_frame, trivial, same_result, trivial, trivial⟩

end Cert.Proof

end
